-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores [hPre_real_scores : Cert.Pre_real_scores.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores [hPre_real_scores : Cert.Pre_real_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_real_scores [hKernelIdeal : Cert.KernelIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_real_scores [hReferenceIdeal : Cert.ReferenceIdeal.Facts] [hPre_real_scores : Cert.Pre_real_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_real_scores [hKernelIdeal : Cert.KernelIdeal.Facts] [hReferenceIdeal : Cert.ReferenceIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_real_scores : Cert.Pre_real_scores.Facts) (hPre_finite : Cert.Pre_finite.Facts),
    quiescent_Kernel (hKernel := hKernel)
    ∧ quiescent_KernelIdeal (hKernelIdeal := hKernelIdeal)
    ∧ quiescent_KernelIdeal_pre_real_scores (hKernelIdeal := hKernelIdeal) (hPre_real_scores := hPre_real_scores)
    ∧ quiescent_ReferenceIdeal (hReferenceIdeal := hReferenceIdeal)
    ∧ quiescent_ReferenceIdeal_pre_real_scores (hReferenceIdeal := hReferenceIdeal) (hPre_real_scores := hPre_real_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal_pre_real_scores (hKernelIdeal := hKernelIdeal) (hReferenceIdeal := hReferenceIdeal) (hPre_real_scores := hPre_real_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S65536x1024 : Shape := ⟨2, ![65536, 1024]⟩
abbrev S1x1024 : Shape := ⟨2, ![1, 1024]⟩
abbrev S1x1024x4096 : Shape := ⟨3, ![1, 1024, 4096]⟩
abbrev S1x64 : Shape := ⟨2, ![1, 64]⟩
abbrev S_ : Shape := ⟨0, ![]⟩

class Facts : Prop where
  bcast_S_S1x1024 : S_.BroadcastsInDim S1x1024 (![] : Fin 0 → Fin S1x1024.rank)
  bcast_S_S1x1024x4096 : S_.BroadcastsInDim S1x1024x4096 (![] : Fin 0 → Fin S1x1024x4096.rank)

variable [Facts]

def fn {F : FTy → Type} [FloatOps F] (main_arg0 : FVec F S65536x1024 .f32) (main_arg1 : FVec F S1x1024 .f32) (main_arg2 : FVec F S1x1024x4096 .f32) (main_arg3 : FVec F S1x64 .f32) (main_arg4 : FVec F S1x64 .f32) : IVec S1x1024 1 × IVec S1x1024x4096 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x4096 .f32 := Host.absf main_arg2
  let main_cst_0 : FVec F S_ .f32 := constant S_ .f32 0x7F800000#32
  let main_v4 : FVec F S1x1024x4096 .f32 := broadcastInDim S1x1024x4096 ![] bcast_S_S1x1024x4096 main_cst_0
  let main_v5 : IVec S1x1024x4096 1 := cmpf .olt main_v3 main_v4
  (main_v2, main_v5)
-- ==== Pre_real_scores.lean ====
abbrev S32x65536x128 : Shape := ⟨3, ![32, 65536, 128]⟩
abbrev S1x8x15x31 : Shape := ⟨4, ![1, 8, 15, 31]⟩
abbrev S8x65536x128 : Shape := ⟨3, ![8, 65536, 128]⟩
abbrev S_ : Shape := ⟨0, ![]⟩

class Facts : Prop where
  slices_S32x65536x128_S8x65536x128_0_0_0 : S32x65536x128.Slices ![0, 0, 0] S8x65536x128
  bitsLt_bf16_f32 : FTy.bits .bf16 < FTy.bits .f32
  bcast_S_S8x65536x128 : S_.BroadcastsInDim S8x65536x128 (![] : Fin 0 → Fin S8x65536x128.rank)
  bcast_S_S1x8x15x31 : S_.BroadcastsInDim S1x8x15x31 (![] : Fin 0 → Fin S1x8x15x31.rank)

variable [Facts]

def fn {F : FTy → Type} [FloatOps F] (main_arg0 : FVec F S32x65536x128 .bf16) (main_arg1 : FVec F S1x8x15x31 .f32) : IVec S8x65536x128 1 × IVec S1x8x15x31 1 :=
  let main_v0 : FVec F S8x65536x128 .bf16 := (extractStridedSlice S8x65536x128 ![0, 0, 0] · slices_S32x65536x128_S8x65536x128_0_0_0) main_arg0
  let main_v1 : FVec F S8x65536x128 .f32 := (extf .f32 · bitsLt_bf16_f32) main_v0
  let main_v2 : FVec F S8x65536x128 .f32 := Host.absf main_v1
  let main_cst : FVec F S_ .f32 := constant S_ .f32 0x7F800000#32
  let main_v3 : FVec F S8x65536x128 .f32 := broadcastInDim S8x65536x128 ![] bcast_S_S8x65536x128 main_cst
  let main_v4 : IVec S8x65536x128 1 := cmpf .olt main_v2 main_v3
  let main_v5 : FVec F S1x8x15x31 .f32 := Host.absf main_arg1
  let main_cst_0 : FVec F S_ .f32 := constant S_ .f32 0x7F800000#32
  let main_v6 : FVec F S1x8x15x31 .f32 := broadcastInDim S1x8x15x31 ![] bcast_S_S1x8x15x31 main_cst_0
  let main_v7 : IVec S1x8x15x31 1 := cmpf .olt main_v5 main_v6
  (main_v4, main_v7)
-- ==== Kernel.lean ====
abbrev S32x65536x128 : Shape := ⟨3, ![32, 65536, 128]⟩
abbrev S1x8x15x31 : Shape := ⟨4, ![1, 8, 15, 31]⟩
abbrev S31x4x16x32 : Shape := ⟨4, ![31, 4, 16, 32]⟩
abbrev S1x4x16x1x32 : Shape := ⟨5, ![1, 4, 16, 1, 32]⟩
abbrev S8x15x31 : Shape := ⟨3, ![8, 15, 31]⟩
abbrev S4x16x32x8x15 : Shape := ⟨5, ![4, 16, 32, 8, 15]⟩
abbrev S8x4x16x15x32 : Shape := ⟨5, ![8, 4, 16, 15, 32]⟩
abbrev S4x2x4x16x480 : Shape := ⟨5, ![4, 2, 4, 16, 480]⟩
abbrev S4x4x2x16x480 : Shape := ⟨5, ![4, 4, 2, 16, 480]⟩
abbrev S4x4x2x16x256 : Shape := ⟨5, ![4, 4, 2, 16, 256]⟩
abbrev S_ : Shape := ⟨0, ![]⟩
abbrev S4x4x2x16x384 : Shape := ⟨5, ![4, 4, 2, 16, 384]⟩
abbrev S4x4x1x2x16x384 : Shape := ⟨6, ![4, 4, 1, 2, 16, 384]⟩
abbrev S4x4x4x2x16x384 : Shape := ⟨6, ![4, 4, 4, 2, 16, 384]⟩
abbrev S1x4x4x4x2x16x384 : Shape := ⟨7, ![1, 4, 4, 4, 2, 16, 384]⟩
abbrev S3x4x4x4x2x16x384 : Shape := ⟨7, ![3, 4, 4, 4, 2, 16, 384]⟩
abbrev S3x4x4x128x384 : Shape := ⟨5, ![3, 4, 4, 128, 384]⟩
abbrev S4x65536x128 : Shape := ⟨3, ![4, 65536, 128]⟩
abbrev S1x4096x128 : Shape := ⟨3, ![1, 4096, 128]⟩
abbrev S3x1x4x128x384 : Shape := ⟨5, ![3, 1, 4, 128, 384]⟩
abbrev S16x128 : Shape := ⟨2, ![16, 128]⟩
abbrev S1x64x128 : Shape := ⟨3, ![1, 64, 128]⟩
abbrev S64x128 : Shape := ⟨2, ![64, 128]⟩
abbrev S8x128 : Shape := ⟨2, ![8, 128]⟩
abbrev S128x128 : Shape := ⟨2, ![128, 128]⟩
abbrev S384x128 : Shape := ⟨2, ![384, 128]⟩
abbrev S128x384 : Shape := ⟨2, ![128, 384]⟩
abbrev S1x1x1x128x384 : Shape := ⟨5, ![1, 1, 1, 128, 384]⟩
abbrev S32x128 : Shape := ⟨2, ![32, 128]⟩
abbrev S128 : Shape := ⟨1, ![128]⟩
abbrev S128x1 : Shape := ⟨2, ![128, 1]⟩

abbrev nBuf : Space → Nat
  | .hbm => 80
  | .vmem => 10
  | .smem => 0
  | _ => 0

abbrev bufTy : (tb : Table) → Fin (tcTables nBuf tb) → BufTy
  | .hbm, ⟨0, _⟩ => ⟨S32x65536x128, .bf16⟩
  | .hbm, ⟨1, _⟩ => ⟨S1x8x15x31, .f32⟩
  | .hbm, ⟨2, _⟩ => ⟨S31x4x16x32, .f32⟩
  | .hbm, ⟨3, _⟩ => ⟨S1x4x16x1x32, .f32⟩
  | .hbm, ⟨4, _⟩ => ⟨S8x15x31, .f32⟩
  | .hbm, ⟨5, _⟩ => ⟨S4x16x32x8x15, .f32⟩
  | .hbm, ⟨6, _⟩ => ⟨S8x4x16x15x32, .f32⟩
  | .hbm, ⟨7, _⟩ => ⟨S8x4x16x15x32, .f32⟩
  | .hbm, ⟨8, _⟩ => ⟨S8x4x16x15x32, .f32⟩
  | .hbm, ⟨9, _⟩ => ⟨S4x2x4x16x480, .f32⟩
  | .hbm, ⟨10, _⟩ => ⟨S4x4x2x16x480, .f32⟩
  | .hbm, ⟨11, _⟩ => ⟨S4x4x2x16x256, .f32⟩
  | .hbm, ⟨12, _⟩ => ⟨S_, .f32⟩
  | .hbm, ⟨13, _⟩ => ⟨S_, .f32⟩
  | .hbm, ⟨14, _⟩ => ⟨S4x4x2x16x384, .f32⟩
  | .hbm, ⟨15, _⟩ => ⟨S4x4x2x16x256, .f32⟩
  | .hbm, ⟨16, _⟩ => ⟨S_, .f32⟩
  | .hbm, ⟨17, _⟩ => ⟨S_, .f32⟩
  | .hbm, ⟨18, _⟩ => ⟨S4x4x2x16x384, .f32⟩
  | .hbm, ⟨19, _⟩ => ⟨S4x4x2x16x256, .f32⟩
  | .hbm, ⟨20, _⟩ => ⟨S_, .f32⟩
  | .hbm, ⟨21, _⟩ => ⟨S_, .f32⟩
  | .hbm, ⟨22, _⟩ => ⟨S4x4x2x16x384, .f32⟩
  | .hbm, ⟨23, _⟩ => ⟨S4x4x2x16x256, .f32⟩
  | .hbm, ⟨24, _⟩ => ⟨S_, .f32⟩
  | .hbm, ⟨25, _⟩ => ⟨S_, .f32⟩
  | .hbm, ⟨26, _⟩ => ⟨S4x4x2x16x384, .f32⟩
  | .hbm, ⟨27, _⟩ => ⟨S4x4x1x2x16x384, .f32⟩
  | .hbm, ⟨28, _⟩ => ⟨S4x4x1x2x16x384, .f32⟩
  | .hbm, ⟨29, _⟩ => ⟨S4x4x1x2x16x384, .f32⟩
  | .hbm, ⟨30, _⟩ => ⟨S4x4x1x2x16x384, .f32⟩
  | .hbm, ⟨31, _⟩ => ⟨S4x4x4x2x16x384, .f32⟩
  | .hbm, ⟨32, _⟩ => ⟨S4x4x2x16x256, .f32⟩
  | .hbm, ⟨33, _⟩ => ⟨S_, .f32⟩
  | .hbm, ⟨34, _⟩ => ⟨S_, .f32⟩
  | .hbm, ⟨35, _⟩ => ⟨S4x4x2x16x384, .f32⟩
  | .hbm, ⟨36, _⟩ => ⟨S4x4x2x16x256, .f32⟩
  | .hbm, ⟨37, _⟩ => ⟨S_, .f32⟩
  | .hbm, ⟨38, _⟩ => ⟨S_, .f32⟩
  | .hbm, ⟨39, _⟩ => ⟨S4x4x2x16x384, .f32⟩
  | .hbm, ⟨40, _⟩ => ⟨S4x4x2x16x256, .f32⟩
  | .hbm, ⟨41, _⟩ => ⟨S_, .f32⟩
  | .hbm, ⟨42, _⟩ => ⟨S_, .f32⟩
  | .hbm, ⟨43, _⟩ => ⟨S4x4x2x16x384, .f32⟩
  | .hbm, ⟨44, _⟩ => ⟨S4x4x2x16x256, .f32⟩
  | .hbm, ⟨45, _⟩ => ⟨S_, .f32⟩
  | .hbm, ⟨46, _⟩ => ⟨S_, .f32⟩
  | .hbm, ⟨47, _⟩ => ⟨S4x4x2x16x384, .f32⟩
  | .hbm, ⟨48, _⟩ => ⟨S4x4x1x2x16x384, .f32⟩
  | .hbm, ⟨49, _⟩ => ⟨S4x4x1x2x16x384, .f32⟩
  | .hbm, ⟨50, _⟩ => ⟨S4x4x1x2x16x384, .f32⟩
  | .hbm, ⟨51, _⟩ => ⟨S4x4x1x2x16x384, .f32⟩
  | .hbm, ⟨52, _⟩ => ⟨S4x4x4x2x16x384, .f32⟩
  | .hbm, ⟨53, _⟩ => ⟨S4x4x2x16x256, .f32⟩
  | .hbm, ⟨54, _⟩ => ⟨S_, .f32⟩
  | .hbm, ⟨55, _⟩ => ⟨S_, .f32⟩
  | .hbm, ⟨56, _⟩ => ⟨S4x4x2x16x384, .f32⟩
  | .hbm, ⟨57, _⟩ => ⟨S4x4x2x16x256, .f32⟩
  | .hbm, ⟨58, _⟩ => ⟨S_, .f32⟩
  | .hbm, ⟨59, _⟩ => ⟨S_, .f32⟩
  | .hbm, ⟨60, _⟩ => ⟨S4x4x2x16x384, .f32⟩
  | .hbm, ⟨61, _⟩ => ⟨S4x4x2x16x256, .f32⟩
  | .hbm, ⟨62, _⟩ => ⟨S_, .f32⟩
  | .hbm, ⟨63, _⟩ => ⟨S_, .f32⟩
  | .hbm, ⟨64, _⟩ => ⟨S4x4x2x16x384, .f32⟩
  | .hbm, ⟨65, _⟩ => ⟨S4x4x2x16x256, .f32⟩
  | .hbm, ⟨66, _⟩ => ⟨S_, .f32⟩
  | .hbm, ⟨67, _⟩ => ⟨S_, .f32⟩
  | .hbm, ⟨68, _⟩ => ⟨S4x4x2x16x384, .f32⟩
  | .hbm, ⟨69, _⟩ => ⟨S4x4x1x2x16x384, .f32⟩
  | .hbm, ⟨70, _⟩ => ⟨S4x4x1x2x16x384, .f32⟩
  | .hbm, ⟨71, _⟩ => ⟨S4x4x1x2x16x384, .f32⟩
  | .hbm, ⟨72, _⟩ => ⟨S4x4x1x2x16x384, .f32⟩
  | .hbm, ⟨73, _⟩ => ⟨S4x4x4x2x16x384, .f32⟩
  | .hbm, ⟨74, _⟩ => ⟨S1x4x4x4x2x16x384, .f32⟩
  | .hbm, ⟨75, _⟩ => ⟨S1x4x4x4x2x16x384, .f32⟩
  | .hbm, ⟨76, _⟩ => ⟨S1x4x4x4x2x16x384, .f32⟩
  | .hbm, ⟨77, _⟩ => ⟨S3x4x4x4x2x16x384, .f32⟩
  | .hbm, ⟨78, _⟩ => ⟨S3x4x4x128x384, .f32⟩
  | .hbm, ⟨79, _⟩ => ⟨S4x65536x128, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x1x4x128x384, .f32⟩
  | .local _ .vmem, ⟨7, _⟩ => ⟨S3x1x4x128x384, .f32⟩
  | .local _ .vmem, ⟨8, _⟩ => ⟨S1x4096x128, .bf16⟩
  | .local _ .vmem, ⟨9, _⟩ => ⟨S1x4096x128, .bf16⟩
  | _, _ => ⟨S32x65536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call3_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_call4_v0 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_call5_v0 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_call6_v0 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_call7_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_call8_v0 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_call9_v0 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_call10_v0 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_call11_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1x4x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x65536x128 : Shape := ⟨3, ![32, 65536, 128]⟩
abbrev S1x8x15x31 : Shape := ⟨4, ![1, 8, 15, 31]⟩
abbrev S4x65536x128 : Shape := ⟨3, ![4, 65536, 128]⟩
abbrev S4x32x2048x2x64 : Shape := ⟨5, ![4, 32, 2048, 2, 64]⟩
abbrev S32x4x2x2048x64 : Shape := ⟨5, ![32, 4, 2, 2048, 64]⟩
abbrev S32x8x2048x64 : Shape := ⟨4, ![32, 8, 2048, 64]⟩
abbrev S32 : Shape := ⟨1, ![32]⟩
abbrev S64 : Shape := ⟨1, ![64]⟩
abbrev S_ : Shape := ⟨0, ![]⟩
abbrev S1x32 : Shape := ⟨2, ![1, 32]⟩
abbrev S32x1 : Shape := ⟨2, ![32, 1]⟩
abbrev S32x32 : Shape := ⟨2, ![32, 32]⟩
abbrev S1x64 : Shape := ⟨2, ![1, 64]⟩
abbrev S64x1 : Shape := ⟨2, ![64, 1]⟩
abbrev S64x64 : Shape := ⟨2, ![64, 64]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S2048x2048 : Shape := ⟨2, ![2048, 2048]⟩
abbrev S8x15x31 : Shape := ⟨3, ![8, 15, 31]⟩
abbrev S32x32x1 : Shape := ⟨3, ![32, 32, 1]⟩
abbrev S8x32x32x31 : Shape := ⟨4, ![8, 32, 32, 31]⟩
abbrev S64x64x1 : Shape := ⟨3, ![64, 64, 1]⟩
abbrev S8x32x32x64x64 : Shape := ⟨5, ![8, 32, 32, 64, 64]⟩
abbrev S8x32x64x32x64 : Shape := ⟨5, ![8, 32, 64, 32, 64]⟩
abbrev S8x2048x2048 : Shape := ⟨3, ![8, 2048, 2048]⟩
abbrev S32x8x2048x2048 : Shape := ⟨4, ![32, 8, 2048, 2048]⟩
abbrev S1x8x2048x2048 : Shape := ⟨4, ![1, 8, 2048, 2048]⟩
abbrev S32x8x2048 : Shape := ⟨3, ![32, 8, 2048]⟩
abbrev S32x8x2048x1 : Shape := ⟨4, ![32, 8, 2048, 1]⟩

abbrev nBuf : Space → Nat
  | .hbm => 154
  | .vmem => 0
  | .smem => 0
  | _ => 0

abbrev hbmTy0_0 (i : Nat) : BufTy := match i % 128 with
  | 0 => ⟨S32x65536x128, .bf16⟩
  | 1 => ⟨S1x8x15x31, .f32⟩
  | 2 => ⟨S32x65536x128, .f32⟩
  | 3 => ⟨S4x65536x128, .f32⟩
  | 4 => ⟨S4x32x2048x2x64, .f32⟩
  | 5 => ⟨S32x4x2x2048x64, .f32⟩
  | 6 => ⟨S32x8x2048x64, .f32⟩
  | 7 => ⟨S4x65536x128, .f32⟩
  | 8 => ⟨S4x32x2048x2x64, .f32⟩
  | 9 => ⟨S32x4x2x2048x64, .f32⟩
  | 10 => ⟨S32x8x2048x64, .f32⟩
  | 11 => ⟨S4x65536x128, .f32⟩
  | 12 => ⟨S4x32x2048x2x64, .f32⟩
  | 13 => ⟨S32x4x2x2048x64, .f32⟩
  | 14 => ⟨S32x8x2048x64, .f32⟩
  | 15 => ⟨S32, .i32⟩
  | 16 => ⟨S64, .i32⟩
  | 17 => ⟨S_, .i32⟩
  | 18 => ⟨S32, .i32⟩
  | 19 => ⟨S32, .i32⟩
  | 20 => ⟨S_, .i32⟩
  | 21 => ⟨S_, .i32⟩
  | 22 => ⟨S_, .i32⟩
  | 23 => ⟨S32, .i32⟩
  | 24 => ⟨S32, .i32⟩
  | 25 => ⟨S_, .i32⟩
  | 26 => ⟨S32, .i32⟩
  | 27 => ⟨S32, .i32⟩
  | 28 => ⟨S_, .i32⟩
  | 29 => ⟨S64, .i32⟩
  | 30 => ⟨S64, .i32⟩
  | 31 => ⟨S_, .i32⟩
  | 32 => ⟨S_, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S1x32, .i32⟩
  | 40 => ⟨S32x1, .i32⟩
  | 41 => ⟨S32x32, .i32⟩
  | 42 => ⟨S32x32, .i32⟩
  | 43 => ⟨S32x32, .i1⟩
  | 44 => ⟨S1x32, .i32⟩
  | 45 => ⟨S32x1, .i32⟩
  | 46 => ⟨S_, .i32⟩
  | 47 => ⟨S32x1, .i32⟩
  | 48 => ⟨S32x1, .i32⟩
  | 49 => ⟨S32x32, .i32⟩
  | 50 => ⟨S32x32, .i32⟩
  | 51 => ⟨S32x32, .i1⟩
  | 52 => ⟨S32x32, .i1⟩
  | 53 => ⟨S1x64, .i32⟩
  | 54 => ⟨S64x1, .i32⟩
  | 55 => ⟨S64x64, .i32⟩
  | 56 => ⟨S64x64, .i32⟩
  | 57 => ⟨S64x64, .i1⟩
  | 58 => ⟨S1x64, .i32⟩
  | 59 => ⟨S64x1, .i32⟩
  | 60 => ⟨S_, .i32⟩
  | 61 => ⟨S64x1, .i32⟩
  | 62 => ⟨S64x1, .i32⟩
  | 63 => ⟨S64x64, .i32⟩
  | 64 => ⟨S64x64, .i32⟩
  | 65 => ⟨S64x64, .i1⟩
  | 66 => ⟨S64x64, .i1⟩
  | 67 => ⟨S32x1x32x1, .i1⟩
  | 68 => ⟨S1x64x1x64, .i1⟩
  | 69 => ⟨S32x64x32x64, .i1⟩
  | 70 => ⟨S32x64x32x64, .i1⟩
  | 71 => ⟨S32x64x32x64, .i1⟩
  | 72 => ⟨S2048x2048, .i1⟩
  | 73 => ⟨S1x32, .i32⟩
  | 74 => ⟨S32x1, .i32⟩
  | 75 => ⟨S32x32, .i32⟩
  | 76 => ⟨S32x32, .i32⟩
  | 77 => ⟨S32x32, .i32⟩
  | 78 => ⟨S_, .i32⟩
  | 79 => ⟨S32x32, .i32⟩
  | 80 => ⟨S32x32, .i32⟩
  | 81 => ⟨S_, .i32⟩
  | 82 => ⟨S_, .i32⟩
  | 83 => ⟨S_, .i32⟩
  | 84 => ⟨S32x32, .i32⟩
  | 85 => ⟨S32x32, .i32⟩
  | 86 => ⟨S_, .i32⟩
  | 87 => ⟨S32x32, .i32⟩
  | 88 => ⟨S32x32, .i32⟩
  | 89 => ⟨S1x64, .i32⟩
  | 90 => ⟨S64x1, .i32⟩
  | 91 => ⟨S64x64, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S_, .i32⟩
  | 99 => ⟨S_, .i32⟩
  | 100 => ⟨S64x64, .i32⟩
  | 101 => ⟨S64x64, .i32⟩
  | 102 => ⟨S_, .i32⟩
  | 103 => ⟨S64x64, .i32⟩
  | 104 => ⟨S64x64, .i32⟩
  | 105 => ⟨S8x15x31, .f32⟩
  | 106 => ⟨S_, .i32⟩
  | 107 => ⟨S32x32, .i32⟩
  | 108 => ⟨S32x32, .i1⟩
  | 109 => ⟨S_, .i32⟩
  | 110 => ⟨S32x32, .i32⟩
  | 111 => ⟨S32x32, .i32⟩
  | 112 => ⟨S32x32, .i32⟩
  | 113 => ⟨S32x32x1, .i32⟩
  | 114 => ⟨S8x32x32x31, .f32⟩
  | 115 => ⟨S_, .i32⟩
  | 116 => ⟨S64x64, .i32⟩
  | 117 => ⟨S64x64, .i1⟩
  | 118 => ⟨S_, .i32⟩
  | 119 => ⟨S64x64, .i32⟩
  | 120 => ⟨S64x64, .i32⟩
  | 121 => ⟨S64x64, .i32⟩
  | 122 => ⟨S64x64x1, .i32⟩
  | 123 => ⟨S8x32x32x64x64, .f32⟩
  | 124 => ⟨S8x32x64x32x64, .f32⟩
  | 125 => ⟨S8x2048x2048, .f32⟩
  | 126 => ⟨S32x8x2048x2048, .f32⟩
  | 127 => ⟨S1x8x2048x2048, .f32⟩
  | _ => ⟨S32x65536x128, .bf16⟩

abbrev hbmTy0_1 (i : Nat) : BufTy := match i % 128 with
  | 0 => ⟨S32x8x2048x2048, .f32⟩
  | 1 => ⟨S32x8x2048x2048, .f32⟩
  | 2 => ⟨S_, .f32⟩
  | 3 => ⟨S_, .f32⟩
  | 4 => ⟨S32x8x2048x2048, .i1⟩
  | 5 => ⟨S32x8x2048x2048, .f32⟩
  | 6 => ⟨S32x8x2048x2048, .f32⟩
  | 7 => ⟨S_, .f32⟩
  | 8 => ⟨S32x8x2048, .f32⟩
  | 9 => ⟨S_, .f32⟩
  | 10 => ⟨S32x8x2048, .f32⟩
  | 11 => ⟨S32x8x2048, .f32⟩
  | 12 => ⟨S32x8x2048x1, .f32⟩
  | 13 => ⟨S32x8x2048x2048, .f32⟩
  | 14 => ⟨S32x8x2048x2048, .f32⟩
  | 15 => ⟨S32x8x2048x2048, .f32⟩
  | 16 => ⟨S_, .f32⟩
  | 17 => ⟨S32x8x2048, .f32⟩
  | 18 => ⟨S32x8x2048x1, .f32⟩
  | 19 => ⟨S32x8x2048x2048, .f32⟩
  | 20 => ⟨S32x8x2048x2048, .f32⟩
  | 21 => ⟨S32x8x2048x64, .f32⟩
  | 22 => ⟨S32x4x2x2048x64, .f32⟩
  | 23 => ⟨S4x32x2048x2x64, .f32⟩
  | 24 => ⟨S4x65536x128, .f32⟩
  | 25 => ⟨S4x65536x128, .bf16⟩
  | _ => ⟨S32x65536x128, .bf16⟩

abbrev hbmTy (i : Nat) : BufTy := match i / 128 with
  | 0 => hbmTy0_0 i
  | 1 => hbmTy0_1 i
  | _ => ⟨S32x65536x128, .bf16⟩

abbrev bufTy : (tb : Table) → Fin (tcTables nBuf tb) → BufTy
  | .hbm, ⟨i, _⟩ => hbmTy i
  | _, _ => ⟨S32x65536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_7 : Ref sig .tc := ⟨.hbm, 78, rfl⟩
abbrev main_v58 : Ref sig .tc := ⟨.hbm, 79, rfl⟩
abbrev main_v59 : Ref sig .tc := ⟨.hbm, 80, rfl⟩
abbrev main_c_8 : Ref sig .tc := ⟨.hbm, 81, rfl⟩
abbrev main_c_9 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_10 : Ref sig .tc := ⟨.hbm, 94, rfl⟩
abbrev main_v66 : Ref sig .tc := ⟨.hbm, 95, rfl⟩
abbrev main_v67 : Ref sig .tc := ⟨.hbm, 96, rfl⟩
abbrev main_c_11 : Ref sig .tc := ⟨.hbm, 97, rfl⟩
abbrev main_c_12 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v68 : Ref sig .tc := ⟨.hbm, 104, rfl⟩
abbrev main_v69 : Ref sig .tc := ⟨.hbm, 105, rfl⟩
abbrev main_c_13 : Ref sig .tc := ⟨.hbm, 106, rfl⟩
abbrev main_v70 : Ref sig .tc := ⟨.hbm, 107, rfl⟩
abbrev main_v71 : Ref sig .tc := ⟨.hbm, 108, rfl⟩
abbrev main_c_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_15 : Ref sig .tc := ⟨.hbm, 115, rfl⟩
abbrev main_v77 : Ref sig .tc := ⟨.hbm, 116, rfl⟩
abbrev main_v78 : Ref sig .tc := ⟨.hbm, 117, rfl⟩
abbrev main_c_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v90 : Ref sig .tc := ⟨.hbm, 134, rfl⟩
abbrev main_cst_17 : Ref sig .tc := ⟨.hbm, 135, rfl⟩
abbrev main_v91 : Ref sig .tc := ⟨.hbm, 136, rfl⟩
abbrev main_cst_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_19 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩

abbrev nD : Nat := 1
abbrev τ : Topo := Topo.v7x

variable {F : FTy → Type} [FloatOps F]
-- ==== Kernel2.lean ====
abbrev S65536x1024 : Shape := ⟨2, ![65536, 1024]⟩
abbrev S4x65536x128 : Shape := ⟨3, ![4, 65536, 128]⟩
abbrev S32x65536x128 : Shape := ⟨3, ![32, 65536, 128]⟩
abbrev S1x128 : Shape := ⟨2, ![1, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S128 : Shape := ⟨1, ![128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S4x1024x128 : Shape := ⟨3, ![4, 1024, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S4x65536x128, .bf16⟩
  | .hbm, ⟨2, _⟩ => ⟨S4x65536x128, .bf16⟩
  | .hbm, ⟨3, _⟩ => ⟨S32x65536x128, .bf16⟩
  | .hbm, ⟨4, _⟩ => ⟨S1x128, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S128, .f32⟩
  | .hbm, ⟨10, _⟩ => ⟨S1024x1024, .f32⟩
  | .hbm, ⟨11, _⟩ => ⟨S1024x1024, .bf16⟩
  | .hbm, ⟨12, _⟩ => ⟨S1024, .f32⟩
  | .hbm, ⟨13, _⟩ => ⟨S1x1024, .f32⟩
  | .hbm, ⟨14, _⟩ => ⟨S1024x4096, .f32⟩
  | .hbm, ⟨15, _⟩ => ⟨S1024x4096, .bf16⟩
  | .hbm, ⟨16, _⟩ => ⟨S4096x1024, .f32⟩
  | .hbm, ⟨17, _⟩ => ⟨S4096x1024, .bf16⟩
  | .hbm, ⟨18, _⟩ => ⟨S1x128, .f32⟩
  | .hbm, ⟨19, _⟩ => ⟨S512x1024, .bf16⟩
  | .hbm, ⟨20, _⟩ => ⟨S512x1024, .bf16⟩
  | .hbm, ⟨21, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x128, .bf16⟩
  | .local _ .vmem, ⟨3, _⟩ => ⟨S4x1024x128, .bf16⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | .local _ .vmem, ⟨7, _⟩ => ⟨S4x1024x128, .bf16⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1024x1024, .f32⟩
  | .local _ .vmem, ⟨15, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S65536x1024 : Shape := ⟨2, ![65536, 1024]⟩
abbrev S4x65536x128 : Shape := ⟨3, ![4, 65536, 128]⟩
abbrev S32x65536x128 : Shape := ⟨3, ![32, 65536, 128]⟩
abbrev S1x128 : Shape := ⟨2, ![1, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S65536x4x128 : Shape := ⟨3, ![65536, 4, 128]⟩
abbrev S128 : Shape := ⟨1, ![128]⟩
abbrev S_ : Shape := ⟨0, ![]⟩
abbrev S65536x4 : Shape := ⟨2, ![65536, 4]⟩
abbrev S65536x4x1 : Shape := ⟨3, ![65536, 4, 1]⟩
abbrev S1x1x128 : Shape := ⟨3, ![1, 1, 128]⟩
abbrev S65536x512 : Shape := ⟨2, ![65536, 512]⟩
abbrev S1024x1024 : Shape := ⟨2, ![1024, 1024]⟩
abbrev S1024 : Shape := ⟨1, ![1024]⟩
abbrev S65536 : Shape := ⟨1, ![65536]⟩
abbrev S65536x1 : Shape := ⟨2, ![65536, 1]⟩
abbrev S1024x4096 : Shape := ⟨2, ![1024, 4096]⟩
abbrev S65536x4096 : Shape := ⟨2, ![65536, 4096]⟩
abbrev S4096x1024 : Shape := ⟨2, ![4096, 1024]⟩

abbrev nBuf : Space → Nat
  | .hbm => 75
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4x65536x128, .bf16⟩
  | .hbm, ⟨2, _⟩ => ⟨S4x65536x128, .bf16⟩
  | .hbm, ⟨3, _⟩ => ⟨S32x65536x128, .bf16⟩
  | .hbm, ⟨4, _⟩ => ⟨S1x128, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S4x65536x128, .f32⟩
  | .hbm, ⟨10, _⟩ => ⟨S65536x4x128, .f32⟩
  | .hbm, ⟨11, _⟩ => ⟨S128, .f32⟩
  | .hbm, ⟨12, _⟩ => ⟨S65536x4x128, .f32⟩
  | .hbm, ⟨13, _⟩ => ⟨S_, .f32⟩
  | .hbm, ⟨14, _⟩ => ⟨S65536x4, .f32⟩
  | .hbm, ⟨15, _⟩ => ⟨S65536x4x1, .f32⟩
  | .hbm, ⟨16, _⟩ => ⟨S_, .f32⟩
  | .hbm, ⟨17, _⟩ => ⟨S65536x4x1, .f32⟩
  | .hbm, ⟨18, _⟩ => ⟨S65536x4x1, .f32⟩
  | .hbm, ⟨19, _⟩ => ⟨S_, .f32⟩
  | .hbm, ⟨20, _⟩ => ⟨S65536x4x1, .f32⟩
  | .hbm, ⟨21, _⟩ => ⟨S65536x4x1, .f32⟩
  | .hbm, ⟨22, _⟩ => ⟨S65536x4x1, .f32⟩
  | .hbm, ⟨23, _⟩ => ⟨S65536x4x128, .f32⟩
  | .hbm, ⟨24, _⟩ => ⟨S65536x4x128, .f32⟩
  | .hbm, ⟨25, _⟩ => ⟨S1x1x128, .f32⟩
  | .hbm, ⟨26, _⟩ => ⟨S65536x4x128, .f32⟩
  | .hbm, ⟨27, _⟩ => ⟨S65536x4x128, .f32⟩
  | .hbm, ⟨28, _⟩ => ⟨S4x65536x128, .bf16⟩
  | .hbm, ⟨29, _⟩ => ⟨S4x65536x128, .f32⟩
  | .hbm, ⟨30, _⟩ => ⟨S65536x4x128, .f32⟩
  | .hbm, ⟨31, _⟩ => ⟨S65536x4x128, .f32⟩
  | .hbm, ⟨32, _⟩ => ⟨S65536x4x128, .f32⟩
  | .hbm, ⟨33, _⟩ => ⟨S_, .f32⟩
  | .hbm, ⟨34, _⟩ => ⟨S65536x4x128, .f32⟩
  | .hbm, ⟨35, _⟩ => ⟨S65536x4x128, .f32⟩
  | .hbm, ⟨36, _⟩ => ⟨S_, .f32⟩
  | .hbm, ⟨37, _⟩ => ⟨S65536x4x128, .f32⟩
  | .hbm, ⟨38, _⟩ => ⟨S65536x4x128, .f32⟩
  | .hbm, ⟨39, _⟩ => ⟨S65536x4x128, .f32⟩
  | .hbm, ⟨40, _⟩ => ⟨S65536x4x128, .f32⟩
  | .hbm, ⟨41, _⟩ => ⟨S4x65536x128, .f32⟩
  | .hbm, ⟨42, _⟩ => ⟨S65536x4x128, .f32⟩
  | .hbm, ⟨43, _⟩ => ⟨S65536x512, .f32⟩
  | .hbm, ⟨44, _⟩ => ⟨S65536x512, .f32⟩
  | .hbm, ⟨45, _⟩ => ⟨S65536x1024, .f32⟩
  | .hbm, ⟨46, _⟩ => ⟨S1024x1024, .f32⟩
  | .hbm, ⟨47, _⟩ => ⟨S65536x1024, .f32⟩
  | .hbm, ⟨48, _⟩ => ⟨S65536x1024, .f32⟩
  | .hbm, ⟨49, _⟩ => ⟨S1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S1x1024, .f32⟩
  | .hbm, ⟨64, _⟩ => ⟨S65536x1024, .f32⟩
  | .hbm, ⟨65, _⟩ => ⟨S65536x1024, .f32⟩
  | .hbm, ⟨66, _⟩ => ⟨S1024x4096, .f32⟩
  | .hbm, ⟨67, _⟩ => ⟨S65536x4096, .f32⟩
  | .hbm, ⟨68, _⟩ => ⟨S_, .f32⟩
  | .hbm, ⟨69, _⟩ => ⟨S65536x4096, .f32⟩
  | .hbm, ⟨70, _⟩ => ⟨S65536x4096, .f32⟩
  | .hbm, ⟨71, _⟩ => ⟨S65536x4096, .f32⟩
  | .hbm, ⟨72, _⟩ => ⟨S4096x1024, .f32⟩
  | .hbm, ⟨73, _⟩ => ⟨S65536x1024, .f32⟩
  | .hbm, ⟨74, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Kernel3.lean ====
abbrev S65536x1024 : Shape := ⟨2, ![65536, 1024]⟩
abbrev S1x1024 : Shape := ⟨2, ![1, 1024]⟩
abbrev S1x1024x4096 : Shape := ⟨3, ![1, 1024, 4096]⟩
abbrev S1x64 : Shape := ⟨2, ![1, 64]⟩
abbrev S1024 : Shape := ⟨1, ![1024]⟩
abbrev S1024x4096 : Shape := ⟨2, ![1024, 4096]⟩
abbrev S64 : Shape := ⟨1, ![64]⟩
abbrev S_ : Shape := ⟨0, ![]⟩
abbrev S2x64 : Shape := ⟨2, ![2, 64]⟩
abbrev S128 : Shape := ⟨1, ![128]⟩
abbrev S1x1x128 : Shape := ⟨3, ![1, 1, 128]⟩
abbrev S1x1x1x1x1x128 : Shape := ⟨6, ![1, 1, 1, 1, 1, 128]⟩
abbrev S4x1x1x1x1x128 : Shape := ⟨6, ![4, 1, 1, 1, 1, 128]⟩
abbrev S4x1x128 : Shape := ⟨3, ![4, 1, 128]⟩
abbrev S8x1x128 : Shape := ⟨3, ![8, 1, 128]⟩
abbrev S32x65536x128 : Shape := ⟨3, ![32, 65536, 128]⟩
abbrev S1024x1024 : Shape := ⟨2, ![1024, 1024]⟩
abbrev S32x1024x128 : Shape := ⟨3, ![32, 1024, 128]⟩
abbrev S1024x1 : Shape := ⟨2, ![1024, 1]⟩
abbrev S1x128 : Shape := ⟨2, ![1, 128]⟩
abbrev S1024x128 : Shape := ⟨2, ![1024, 128]⟩
abbrev S1x1024x128 : Shape := ⟨3, ![1, 1024, 128]⟩

abbrev nBuf : Space → Nat
  | .hbm => 33
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x4096, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x1x128, .f32⟩
  | .hbm, ⟨18, _⟩ => ⟨S1x1x1x1x1x128, .f32⟩
  | .hbm, ⟨19, _⟩ => ⟨S4x1x1x1x1x128, .f32⟩
  | .hbm, ⟨20, _⟩ => ⟨S4x1x128, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x1x128, .f32⟩
  | .hbm, ⟨28, _⟩ => ⟨S1x1x1x1x1x128, .f32⟩
  | .hbm, ⟨29, _⟩ => ⟨S4x1x1x1x1x128, .f32⟩
  | .hbm, ⟨30, _⟩ => ⟨S4x1x128, .f32⟩
  | .hbm, ⟨31, _⟩ => ⟨S8x1x128, .f32⟩
  | .hbm, ⟨32, _⟩ => ⟨S32x65536x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S8x1x128, .f32⟩
  | .local _ .vmem, ⟨5, _⟩ => ⟨S32x1024x128, .bf16⟩
  | .local _ .vmem, ⟨6, _⟩ => ⟨S32x1024x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S65536x1024 : Shape := ⟨2, ![65536, 1024]⟩
abbrev S1x1024 : Shape := ⟨2, ![1, 1024]⟩
abbrev S1x1024x4096 : Shape := ⟨3, ![1, 1024, 4096]⟩
abbrev S1x64 : Shape := ⟨2, ![1, 64]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x4096 : Shape := ⟨2, ![1024, 4096]⟩
abbrev S65536x4096 : Shape := ⟨2, ![65536, 4096]⟩
abbrev S65536x512 : Shape := ⟨2, ![65536, 512]⟩
abbrev S65536x8x64 : Shape := ⟨3, ![65536, 8, 64]⟩
abbrev S64 : Shape := ⟨1, ![64]⟩
abbrev S65536x8 : Shape := ⟨2, ![65536, 8]⟩
abbrev S65536x8x1 : Shape := ⟨3, ![65536, 8, 1]⟩
abbrev S1x1x64 : Shape := ⟨3, ![1, 1, 64]⟩
abbrev S65536x3072 : Shape := ⟨2, ![65536, 3072]⟩
abbrev S65536x32x128 : Shape := ⟨3, ![65536, 32, 128]⟩
abbrev S32x65536x128 : Shape := ⟨3, ![32, 65536, 128]⟩

abbrev nBuf : Space → Nat
  | .hbm => 72
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x4096, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1024x4096, .f32⟩
  | .hbm, ⟨23, _⟩ => ⟨S65536x4096, .f32⟩
  | .hbm, ⟨24, _⟩ => ⟨S65536x512, .f32⟩
  | .hbm, ⟨25, _⟩ => ⟨S65536x8x64, .f32⟩
  | .hbm, ⟨26, _⟩ => ⟨S64, .f32⟩
  | .hbm, ⟨27, _⟩ => ⟨S65536x8x64, .f32⟩
  | .hbm, ⟨28, _⟩ => ⟨S_, .f32⟩
  | .hbm, ⟨29, _⟩ => ⟨S65536x8, .f32⟩
  | .hbm, ⟨30, _⟩ => ⟨S65536x8x1, .f32⟩
  | .hbm, ⟨31, _⟩ => ⟨S_, .f32⟩
  | .hbm, ⟨32, _⟩ => ⟨S65536x8x1, .f32⟩
  | .hbm, ⟨33, _⟩ => ⟨S65536x8x1, .f32⟩
  | .hbm, ⟨34, _⟩ => ⟨S_, .f32⟩
  | .hbm, ⟨35, _⟩ => ⟨S65536x8x1, .f32⟩
  | .hbm, ⟨36, _⟩ => ⟨S65536x8x1, .f32⟩
  | .hbm, ⟨37, _⟩ => ⟨S65536x8x1, .f32⟩
  | .hbm, ⟨38, _⟩ => ⟨S65536x8x64, .f32⟩
  | .hbm, ⟨39, _⟩ => ⟨S65536x8x64, .f32⟩
  | .hbm, ⟨40, _⟩ => ⟨S1x1x64, .f32⟩
  | .hbm, ⟨41, _⟩ => ⟨S65536x8x64, .f32⟩
  | .hbm, ⟨42, _⟩ => ⟨S65536x8x64, .f32⟩
  | .hbm, ⟨43, _⟩ => ⟨S_, .f32⟩
  | .hbm, ⟨44, _⟩ => ⟨S65536x8x64, .f32⟩
  | .hbm, ⟨45, _⟩ => ⟨S65536x8x64, .f32⟩
  | .hbm, ⟨46, _⟩ => ⟨S65536x512, .f32⟩
  | .hbm, ⟨47, _⟩ => ⟨S65536x8x64, .f32⟩
  | .hbm, ⟨48, _⟩ => ⟨S64, .f32⟩
  | .hbm, ⟨49, _⟩ => ⟨S65536x8x64, .f32⟩
  | .hbm, ⟨50, _⟩ => ⟨S_, .f32⟩
  | .hbm, ⟨51, _⟩ => ⟨S65536x8, .f32⟩
  | .hbm, ⟨52, _⟩ => ⟨S65536x8x1, .f32⟩
  | .hbm, ⟨53, _⟩ => ⟨S_, .f32⟩
  | .hbm, ⟨54, _⟩ => ⟨S65536x8x1, .f32⟩
  | .hbm, ⟨55, _⟩ => ⟨S65536x8x1, .f32⟩
  | .hbm, ⟨56, _⟩ => ⟨S_, .f32⟩
  | .hbm, ⟨57, _⟩ => ⟨S65536x8x1, .f32⟩
  | .hbm, ⟨58, _⟩ => ⟨S65536x8x1, .f32⟩
  | .hbm, ⟨59, _⟩ => ⟨S65536x8x1, .f32⟩
  | .hbm, ⟨60, _⟩ => ⟨S65536x8x64, .f32⟩
  | .hbm, ⟨61, _⟩ => ⟨S65536x8x64, .f32⟩
  | .hbm, ⟨62, _⟩ => ⟨S1x1x64, .f32⟩
  | .hbm, ⟨63, _⟩ => ⟨S65536x8x64, .f32⟩
  | .hbm, ⟨64, _⟩ => ⟨S65536x8x64, .f32⟩
  | .hbm, ⟨65, _⟩ => ⟨S65536x512, .f32⟩
  | .hbm, ⟨66, _⟩ => ⟨S65536x512, .f32⟩
  | .hbm, ⟨67, _⟩ => ⟨S65536x3072, .f32⟩
  | .hbm, ⟨68, _⟩ => ⟨S65536x4096, .f32⟩
  | .hbm, ⟨69, _⟩ => ⟨S65536x32x128, .f32⟩
  | .hbm, ⟨70, _⟩ => ⟨S32x65536x128, .f32⟩
  | .hbm, ⟨71, _⟩ => ⟨S32x65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run

@[expose] public section

set_option maxRecDepth 16384

noncomputable section

/-! Every program ends with its arguments unchanged and every semaphore at zero. A reference runs on the host
    alone and has no semaphores. -/

namespace Cert.Proof

open Idealize.ShloMosaic Idealize.SL.Sem

theorem kept1 : Cert.quiescent_Kernel := fun m ρ _ => Cert.Kernel.Gen.frame m ρ
theorem keptIdeal1 : Cert.quiescent_KernelIdeal := fun m ρ _ => Cert.KernelIdeal.Gen.frame m ρ
theorem keptRef1 : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem kept2 : Cert.quiescent_Kernel2 := fun m ρ _ => Cert.Kernel2.Gen.frame m ρ
theorem keptIdeal2 : Cert.quiescent_Kernel2Ideal := fun m ρ _ => Cert.Kernel2Ideal.Gen.frame m ρ
theorem keptRef2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem kept3 : Cert.quiescent_Kernel3 := fun m ρ _ => Cert.Kernel3.Gen.frame m ρ
theorem keptIdeal3 : Cert.quiescent_Kernel3Ideal := fun m ρ _ => Cert.Kernel3Ideal.Gen.frame m ρ
theorem keptRef3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof

end
-- ==== Proof.MlpBody.lean ====
module

public import proofs.«01_k».proof.Proof.Gen.Kernel2Ideal.Frame
public import Idealize.ShloMosaic.Lib.Pointwise

@[expose] public section

set_option maxRecDepth 16384

noncomputable section

namespace Cert.OutMlp

open Idealize.ShloMosaic Cert.Kernel2Ideal Cert.Kernel2Ideal.Gen

/-- One head of the gated recurrence output: the RMS norm of `o` over the head's 128 lanes, scaled
    by `w`, times the SiLU of the gate. -/
def gated (o g w : Fin 128 → EReal) (d : Fin 128) : EReal :=
  o d * Ideal.rsqrt (Ideal.div (∑ k, o k * o k) (Ideal.ofBits .f32 0x43000000#32) + Ideal.ofBits .f32 0x358637BD#32) * w d
    * (g d * Ideal.div 1 (1 + Ideal.exp (-(g d))))

/-- The heads laid side by side: column `k` is lane `k % 128` of head `k / 128`. -/
def lanes (y : Fin 4 → Fin 128 → EReal) (k : Fin 512) : EReal :=
  y ⟨k.val / 128, by omega⟩ ⟨k.val % 128, by omega⟩

/-- The vectors of the body, one head. -/
def headV (o g : FVec Ideal S1x512x128 .bf16) (w : FVec Ideal S1x128 .f32) : FVec Ideal S512x128 .bf16 :=
  k0_pay7 o g w

theorem headV_apply (o g : FVec Ideal S1x512x128 .bf16) (w : FVec Ideal S1x128 .f32) (i : Fin 512) (d : Fin 128) :
    headV o g w (ix2 i d) = gated (fun k => o (ix3 0 i k)) (fun k => g (ix3 0 i k)) (fun k => w (ix2 0 k)) d := by
  pointwise [headV, k0_pay7, gated]
  rw [zero_sub]

/-- The residual stream after the two mixers: `x` plus the two halves of the output projection. -/
def hidden (x : Fin 1024 → EReal) (y h : Fin 4 → Fin 128 → EReal) (a b : Fin 512 → Fin 1024 → EReal) (j : Fin 1024) : EReal :=
  x j + (∑ k, lanes y k * a k j) + ∑ k, lanes h k * b k j

/-- The RMS norm of a row of 1024 entries, scaled by `w`. -/
def normed (h w : Fin 1024 → EReal) (j : Fin 1024) : EReal :=
  h j * Ideal.rsqrt (Ideal.div (∑ k, h k * h k) (Ideal.ofBits .f32 0x44800000#32) + Ideal.ofBits .f32 0x358637BD#32) * w j

/-- One unit of the feed-forward layer: the squared positive part of its pre-activation. -/
def unit (u : Fin 1024 → EReal) (w : Fin 1024 → EReal) : EReal :=
  max (∑ k, u k * w k) 0 * max (∑ k, u k * w k) 0

/-- The four head vectors side by side. -/
def besideV (a b c d : FVec Ideal S512x128 .bf16) : FVec Ideal S512x512 .bf16 :=
  concatenate S512x512 1 [⟨S512x128, a⟩, ⟨S512x128, b⟩, ⟨S512x128, c⟩, ⟨S512x128, d⟩] concatenates_S512x128_S512x128_S512x128_S512x128_S512x512_d1

/-- The residual stream of half a tile. -/
def hiddenV (x : FVec Ideal S512x1024 .f32) (y h : FVec Ideal S512x512 .bf16) (a b : FVec Ideal S512x1024 .bf16) : FVec Ideal S512x1024 .f32 :=
  addf (addf x (matmul dot_S512x512_S512x1024_S512x1024_1_0_0_1_n_n none y (shapeCast S512x1024 a shapeCasts_S512x1024_S512x1024) (constant S512x1024 .f32 0x00000000#32)))
    (matmul dot_S512x512_S512x1024_S512x1024_1_0_0_1_n_n none h (shapeCast S512x1024 b shapeCasts_S512x1024_S512x1024) (constant S512x1024 .f32 0x00000000#32))

/-- Its norm. -/
def normedV (h : FVec Ideal S512x1024 .f32) (w : FVec Ideal S1x1024 .f32) : FVec Ideal S512x1024 .bf16 :=
  k0_pay30 (mulf h (broadcastTo S512x1024 (rsqrt (addf (divf (shapeCast S512x1 (multiReduction .add [1] S512 (mulf h h) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) w

/-- One chunk of 1024 units: up, squared positive part, down. -/
def chunkV (u : FVec Ideal S512x1024 .bf16) (a b : FVec Ideal S1024x1024 .bf16) : FVec Ideal S512x1024 .f32 :=
  matmul dot_S512x1024_S1024x1024_S512x1024_1_0_0_1_n_n none (k0_pay17 u a) (shapeCast S1024x1024 b shapeCasts_S1024x1024_S1024x1024) (constant S512x1024 .f32 0x00000000#32)

/-- What the body computes from the loads of half a tile. -/
def halfV (x : FVec Ideal S512x1024 .f32) (y0 y1 y2 y3 o0 o1 o2 o3 g0 g1 g2 g3 : FVec Ideal S1x512x128 .bf16) (w : FVec Ideal S1x128 .f32)
    (a b : FVec Ideal S512x1024 .bf16) (n : FVec Ideal S1x1024 .f32) (u0 u1 u2 u3 d0 d1 d2 d3 : FVec Ideal S1024x1024 .bf16) : FVec Ideal S512x1024 .f32 :=
  have h := hiddenV x (k0_pay2 y0 y1 y2 y3) (besideV (headV o0 g0 w) (headV o1 g1 w) (headV o2 g2 w) (headV o3 g3 w)) a b
  have u := normedV h n
  addf h (addf (addf (addf (chunkV u u0 d0) (chunkV u u1 d1)) (chunkV u u2 d2)) (chunkV u u3 d3))

/-- The block the body leaves, as its two halves. -/
theorem out_halves (x0 : Vec Ideal S1024x1024 .f32) (x1 x2 x3 : Vec Ideal S4x1024x128 .bf16) (x4 : Vec Ideal S1x128 .f32) (x5 x6 : Vec Ideal S512x1024 .bf16)
    (x7 : Vec Ideal S1x1024 .f32) (x8 : Vec Ideal S1024x4096 .bf16) (x9 : Vec Ideal S4096x1024 .bf16) :
    out0_10 x0 x1 x2 x3 x4 x5 x6 x7 x8 x9 = View.canon
      [⟨r0_20, halfV (View.ld x0 r0_20) (View.ld x1 r0_16) (View.ld x1 r0_17) (View.ld x1 r0_18) (View.ld x1 r0_19)
          (View.ld x2 r0_16) (View.ld x2 r0_17) (View.ld x2 r0_18) (View.ld x2 r0_19)
          (View.ld x3 r0_16) (View.ld x3 r0_17) (View.ld x3 r0_18) (View.ld x3 r0_19) (View.ld x4 r0_4) (View.ld x5 r0_6) (View.ld x6 r0_6) (View.ld x7 r0_7)
          (View.ld x8 r0_8) (View.ld x8 r0_10) (View.ld x8 r0_12) (View.ld x8 r0_14) (View.ld x9 r0_9) (View.ld x9 r0_11) (View.ld x9 r0_13) (View.ld x9 r0_15)⟩,
       ⟨r0_5, halfV (View.ld x0 r0_5) (View.ld x1 r0_0) (View.ld x1 r0_1) (View.ld x1 r0_2) (View.ld x1 r0_3)
          (View.ld x2 r0_0) (View.ld x2 r0_1) (View.ld x2 r0_2) (View.ld x2 r0_3)
          (View.ld x3 r0_0) (View.ld x3 r0_1) (View.ld x3 r0_2) (View.ld x3 r0_3) (View.ld x4 r0_4) (View.ld x5 r0_6) (View.ld x6 r0_6) (View.ld x7 r0_7)
          (View.ld x8 r0_8) (View.ld x8 r0_10) (View.ld x8 r0_12) (View.ld x8 r0_14) (View.ld x9 r0_9) (View.ld x9 r0_11) (View.ld x9 r0_13) (View.ld x9 r0_15)⟩] := rfl

/-- Four pieces read at their positions are the lanes of four heads. -/
theorem ladder (y : Fin 4 → Fin 128 → EReal) (k : Fin 512) :
    (if h : k.val < 128 then y 0 ⟨k.val, h⟩ else
      if h : k.val - 128 < 128 then y 1 ⟨k.val - 128, h⟩ else
        if h : k.val - 128 - 128 < 128 then y 2 ⟨k.val - 128 - 128, h⟩ else y 3 ⟨k.val - 128 - 128 - 128, by omega⟩) = lanes y k := by
  unfold lanes
  split
  · congr 1 <;> apply Fin.ext <;> simp <;> omega
  split
  · congr 1 <;> apply Fin.ext <;> simp <;> omega
  split
  · congr 1 <;> apply Fin.ext <;> simp <;> omega
  · congr 1 <;> apply Fin.ext <;> simp <;> omega

theorem besideV_apply (a b c d : FVec Ideal S512x128 .bf16) (i k : Fin 512) :
    besideV a b c d (ix2 i k) = lanes (fun n e => (![a, b, c, d] : Fin 4 → FVec Ideal S512x128 .bf16) n (ix2 i e)) k := by
  pointwise [besideV]
  exact ladder (fun n e => (![a, b, c, d] : Fin 4 → FVec Ideal S512x128 .bf16) n (ix2 i e)) k

theorem hiddenV_apply (x : FVec Ideal S512x1024 .f32) (y h : FVec Ideal S512x512 .bf16) (a b : FVec Ideal S512x1024 .bf16) (i : Fin 512) (j : Fin 1024) :
    hiddenV x y h a b (ix2 i j) = x (ix2 i j) + (∑ k : Fin 512, y (ix2 i k) * a (ix2 k j)) + ∑ k : Fin 512, h (ix2 i k) * b (ix2 k j) := by
  pointwise [hiddenV]

theorem normedV_apply (h : FVec Ideal S512x1024 .f32) (w : FVec Ideal S1x1024 .f32) (i : Fin 512) (j : Fin 1024) :
    normedV h w (ix2 i j) = normed (fun k => h (ix2 i k)) (fun k => w (ix2 0 k)) j := by
  pointwise [normedV, k0_pay30, normed]

theorem chunkV_apply (u : FVec Ideal S512x1024 .bf16) (a b : FVec Ideal S1024x1024 .bf16) (i : Fin 512) (j : Fin 1024) :
    chunkV u a b (ix2 i j) = ∑ f : Fin 1024, unit (fun k => u (ix2 i k)) (fun k => a (ix2 k f)) * b (ix2 f j) := by
  pointwise [chunkV, k0_pay17, unit]

theorem besideY_apply (a b c d : FVec Ideal S1x512x128 .bf16) (i k : Fin 512) :
    (k0_pay2 (F := Ideal) a b c d (ix2 i k) : EReal) = lanes (fun n e => (![a, b, c, d] : Fin 4 → FVec Ideal S1x512x128 .bf16) n (ix3 0 i e)) k := by
  pointwise [k0_pay2]
  exact ladder (fun n e => (![a, b, c, d] : Fin 4 → FVec Ideal S1x512x128 .bf16) n (ix3 0 i e)) k

/-- A sum over the 4096 units as the sums of its four chunks. -/
theorem sum_chunks (f : Fin 4096 → EReal) :
    (∑ k : Fin 1024, f ⟨k.val, by omega⟩) + (∑ k : Fin 1024, f ⟨1024 + k.val, by omega⟩) + (∑ k : Fin 1024, f ⟨2048 + k.val, by omega⟩)
      + (∑ k : Fin 1024, f ⟨3072 + k.val, by omega⟩) = ∑ k, f k := by
  rw [Fin.sum_univ_two_halves 3072 1024 rfl f, Fin.sum_univ_two_halves 2048 1024 rfl, Fin.sum_univ_two_halves 1024 1024 rfl]

/-- One row of the result from its operands. -/
def row (x : Fin 1024 → EReal) (y o g : Fin 4 → Fin 128 → EReal) (w : Fin 128 → EReal) (a b : Fin 512 → Fin 1024 → EReal) (n : Fin 1024 → EReal)
    (up : Fin 1024 → Fin 4096 → EReal) (down : Fin 4096 → Fin 1024 → EReal) (j : Fin 1024) : EReal :=
  hidden x y (fun q => gated (o q) (g q) w) a b j
    + ∑ f, unit (normed (hidden x y (fun q => gated (o q) (g q) w) a b) n) (fun k => up k f) * down f j

/-- Half a tile at row `i` and column `j`, its loads named by what they hold there. -/
theorem halfV_apply (x : FVec Ideal S512x1024 .f32) (y0 y1 y2 y3 o0 o1 o2 o3 g0 g1 g2 g3 : FVec Ideal S1x512x128 .bf16) (w : FVec Ideal S1x128 .f32)
    (a b : FVec Ideal S512x1024 .bf16) (n : FVec Ideal S1x1024 .f32) (u0 u1 u2 u3 d0 d1 d2 d3 : FVec Ideal S1024x1024 .bf16)
    (i : Fin 512) (j : Fin 1024)
    (X : Fin 1024 → EReal) (Y O G : Fin 4 → Fin 128 → EReal) (W : Fin 128 → EReal) (A B : Fin 512 → Fin 1024 → EReal) (N : Fin 1024 → EReal)
    (U : Fin 1024 → Fin 4096 → EReal) (D : Fin 4096 → Fin 1024 → EReal)
    (hx : ∀ k, x (ix2 i k) = X k)
    (hy : ∀ e, y0 (ix3 0 i e) = Y 0 e ∧ y1 (ix3 0 i e) = Y 1 e ∧ y2 (ix3 0 i e) = Y 2 e ∧ y3 (ix3 0 i e) = Y 3 e)
    (ho : ∀ e, o0 (ix3 0 i e) = O 0 e ∧ o1 (ix3 0 i e) = O 1 e ∧ o2 (ix3 0 i e) = O 2 e ∧ o3 (ix3 0 i e) = O 3 e)
    (hg : ∀ e, g0 (ix3 0 i e) = G 0 e ∧ g1 (ix3 0 i e) = G 1 e ∧ g2 (ix3 0 i e) = G 2 e ∧ g3 (ix3 0 i e) = G 3 e)
    (hw : ∀ e, w (ix2 0 e) = W e) (ha : ∀ k l, a (ix2 k l) = A k l) (hb : ∀ k l, b (ix2 k l) = B k l) (hn : ∀ k, n (ix2 0 k) = N k)
    (hu : ∀ k f : Fin 1024, u0 (ix2 k f) = U k ⟨f.val, by omega⟩ ∧ u1 (ix2 k f) = U k ⟨1024 + f.val, by omega⟩
      ∧ u2 (ix2 k f) = U k ⟨2048 + f.val, by omega⟩ ∧ u3 (ix2 k f) = U k ⟨3072 + f.val, by omega⟩)
    (hd : ∀ f l : Fin 1024, d0 (ix2 f l) = D ⟨f.val, by omega⟩ l ∧ d1 (ix2 f l) = D ⟨1024 + f.val, by omega⟩ l
      ∧ d2 (ix2 f l) = D ⟨2048 + f.val, by omega⟩ l ∧ d3 (ix2 f l) = D ⟨3072 + f.val, by omega⟩ l) :
    halfV x y0 y1 y2 y3 o0 o1 o2 o3 g0 g1 g2 g3 w a b n u0 u1 u2 u3 d0 d1 d2 d3 (ix2 i j) = row X Y O G W A B N U D j := by
  have hY : ∀ k, (k0_pay2 (F := Ideal) y0 y1 y2 y3 (ix2 i k) : EReal) = lanes Y k := fun k => by
    rw [besideY_apply]
    congr 1; funext q e
    fin_cases q
    exacts [(hy e).1, (hy e).2.1, (hy e).2.2.1, (hy e).2.2.2]
  have hH : ∀ k, besideV (headV o0 g0 w) (headV o1 g1 w) (headV o2 g2 w) (headV o3 g3 w) (ix2 i k) = lanes (fun q => gated (O q) (G q) W) k := fun k => by
    rw [besideV_apply]
    congr 1; funext q e
    fin_cases q
    · exact (headV_apply o0 g0 w i e).trans (by simp only [ho, hg, hw]; rfl)
    · exact (headV_apply o1 g1 w i e).trans (by simp only [ho, hg, hw]; rfl)
    · exact (headV_apply o2 g2 w i e).trans (by simp only [ho, hg, hw]; rfl)
    · exact (headV_apply o3 g3 w i e).trans (by simp only [ho, hg, hw]; rfl)
  have hh : ∀ l, hiddenV x (k0_pay2 y0 y1 y2 y3) (besideV (headV o0 g0 w) (headV o1 g1 w) (headV o2 g2 w) (headV o3 g3 w)) a b (ix2 i l)
      = hidden X Y (fun q => gated (O q) (G q) W) A B l := fun l => by
    rw [hiddenV_apply]
    simp only [hidden, hY, hH, hx, ha, hb]
  have hN : ∀ l, normedV (hiddenV x (k0_pay2 y0 y1 y2 y3) (besideV (headV o0 g0 w) (headV o1 g1 w) (headV o2 g2 w) (headV o3 g3 w)) a b) n (ix2 i l)
      = normed (hidden X Y (fun q => gated (O q) (G q) W) A B) N l := fun l => by
    rw [normedV_apply]
    simp only [hh, hn]
  unfold halfV row
  simp only [addf_apply, Ideal.addf_def, chunkV_apply, hh, hN, hu, hd]
  rw [← sum_chunks]

end Cert.OutMlp

end
-- ==== Proof.InProjBody.lean ====
module

public import proofs.«01_k».proof.Proof.MlpBody
public import proofs.«01_k».proof.Proof.Gen.Kernel3Ideal.Frame
public import Idealize.ShloMosaic.Lib.Pointwise

@[expose] public section

set_option maxRecDepth 16384

noncomputable section

namespace Cert.InProj

open Idealize.ShloMosaic Cert.Kernel3Ideal Cert.Kernel3Ideal.Gen
open Cert.OutMlp (normed)

/-- One row of the projection: the normed row times the weight matrix. -/
def project (x n : Fin 1024 → EReal) (w : Fin 1024 → Fin 4096 → EReal) (k : Fin 4096) : EReal :=
  ∑ l, normed x n l * w l k

/-- Two heads of 64 lanes side by side, each divided by its own root mean square and scaled lane by lane. -/
def headed (p g : Fin 128 → EReal) (d : Fin 128) : EReal :=
  p d * Ideal.rsqrt (Ideal.div (∑ e : Fin 64, p ⟨64 * (d.val / 64) + e.val, by omega⟩ * p ⟨64 * (d.val / 64) + e.val, by omega⟩) (Ideal.ofBits .f32 0x42800000#32)
    + Ideal.ofBits .f32 0x358637BD#32) * g d

/-- The projected rows of a tile. -/
def rowsV (x0 : Vec Ideal S1024x1024 .f32) (x1 : Vec Ideal S1x1024 .f32) (x2 : Vec Ideal S1024x4096 .bf16) : FVec Ideal S1024x4096 .f32 :=
  k0_pay2 (View.ld x0 r0_0) (View.ld x1 r0_1) (View.ld x2 r0_2)

/-- Columns `128 q` to `128 q + 127`. -/
def slab (p : FVec Ideal S1024x4096 .f32) (q : Fin 32) : FVec Ideal S1024x128 .f32 :=
  extractStridedSlice S1024x128 ![0, 128 * q.val] p ⟨rfl, fun a => by fin_cases a <;> simp <;> omega⟩

/-- A slab stored as it is. -/
def plainV (s : FVec Ideal S1024x128 .f32) : FVec Ideal S1x1024x128 .bf16 := k0_pay49 s

/-- A slab of two heads, normed. -/
def headV (s : FVec Ideal S1024x128 .f32) (w : FVec Ideal S1x1x128 .f32) : FVec Ideal S1x1024x128 .bf16 :=
  k0_pay21 k0_pay3 s (mulf s s) w

/-- The block the body leaves, slab by slab. -/
theorem out_slabs (x0 : Vec Ideal S1024x1024 .f32) (x1 : Vec Ideal S1x1024 .f32) (x2 : Vec Ideal S1024x4096 .bf16) (x3 : Vec Ideal S8x1x128 .f32) :
    out0_4 x0 x1 x2 x3 = View.canon
      [⟨r0_42, plainV (slab (rowsV x0 x1 x2) 31)⟩,
       ⟨r0_41, plainV (slab (rowsV x0 x1 x2) 30)⟩,
       ⟨r0_40, plainV (slab (rowsV x0 x1 x2) 29)⟩,
       ⟨r0_39, plainV (slab (rowsV x0 x1 x2) 28)⟩,
       ⟨r0_38, plainV (slab (rowsV x0 x1 x2) 27)⟩,
       ⟨r0_37, plainV (slab (rowsV x0 x1 x2) 26)⟩,
       ⟨r0_36, plainV (slab (rowsV x0 x1 x2) 25)⟩,
       ⟨r0_35, plainV (slab (rowsV x0 x1 x2) 24)⟩,
       ⟨r0_34, plainV (slab (rowsV x0 x1 x2) 23)⟩,
       ⟨r0_33, plainV (slab (rowsV x0 x1 x2) 22)⟩,
       ⟨r0_32, plainV (slab (rowsV x0 x1 x2) 21)⟩,
       ⟨r0_31, plainV (slab (rowsV x0 x1 x2) 20)⟩,
       ⟨r0_30, plainV (slab (rowsV x0 x1 x2) 19)⟩,
       ⟨r0_29, plainV (slab (rowsV x0 x1 x2) 18)⟩,
       ⟨r0_28, plainV (slab (rowsV x0 x1 x2) 17)⟩,
       ⟨r0_27, plainV (slab (rowsV x0 x1 x2) 16)⟩,
       ⟨r0_26, plainV (slab (rowsV x0 x1 x2) 15)⟩,
       ⟨r0_25, plainV (slab (rowsV x0 x1 x2) 14)⟩,
       ⟨r0_24, plainV (slab (rowsV x0 x1 x2) 13)⟩,
       ⟨r0_23, plainV (slab (rowsV x0 x1 x2) 12)⟩,
       ⟨r0_22, plainV (slab (rowsV x0 x1 x2) 11)⟩,
       ⟨r0_21, plainV (slab (rowsV x0 x1 x2) 10)⟩,
       ⟨r0_20, plainV (slab (rowsV x0 x1 x2) 9)⟩,
       ⟨r0_19, plainV (slab (rowsV x0 x1 x2) 8)⟩,
       ⟨r0_18, headV (slab (rowsV x0 x1 x2) 7) (View.ld x3 r0_17)⟩,
       ⟨r0_16, headV (slab (rowsV x0 x1 x2) 6) (View.ld x3 r0_15)⟩,
       ⟨r0_14, headV (slab (rowsV x0 x1 x2) 5) (View.ld x3 r0_13)⟩,
       ⟨r0_12, headV (slab (rowsV x0 x1 x2) 4) (View.ld x3 r0_11)⟩,
       ⟨r0_10, headV (slab (rowsV x0 x1 x2) 3) (View.ld x3 r0_9)⟩,
       ⟨r0_8, headV (slab (rowsV x0 x1 x2) 2) (View.ld x3 r0_7)⟩,
       ⟨r0_6, headV (slab (rowsV x0 x1 x2) 1) (View.ld x3 r0_5)⟩,
       ⟨r0_4, headV (slab (rowsV x0 x1 x2) 0) (View.ld x3 r0_3)⟩] := rfl

theorem slab_apply (p : FVec Ideal S1024x4096 .f32) (q : Fin 32) (i : Fin 1024) (d : Fin 128) :
    slab p q (ix2 i d) = p (ix2 i ⟨128 * q.val + d.val, by omega⟩) := by
  unfold slab extractStridedSlice
  congr 1
  funext a
  fin_cases a <;> simp [ix2]

theorem plainV_apply (s : FVec Ideal S1024x128 .f32) (i : Fin 1024) (d : Fin 128) : plainV s (ix3 0 i d) = s (ix2 i d) := by
  pointwise [plainV, k0_pay49]

theorem rowsV_apply (x0 : Vec Ideal S1024x1024 .f32) (x1 : Vec Ideal S1x1024 .f32) (x2 : Vec Ideal S1024x4096 .bf16) (i : Fin 1024) (k : Fin 4096) :
    rowsV x0 x1 x2 (ix2 i k) = project (fun l => x0 (ix2 i l)) (fun l => x1 (ix2 0 l)) (fun l k => x2 (ix2 l k)) k := by
  pointwise [rowsV, k0_pay2, project, normed]

end Cert.InProj

end
-- ==== Proof.Consts.lean ====
module

public import Idealize.ShloMosaic.PureOps.Ideal
public import Idealize.ShloMosaic.Lib.IdealHost

@[expose] public section

noncomputable section

/-! The constants of the programs as real numbers. -/

namespace Cert.Consts

open Idealize.ShloMosaic

theorem of_1024 : Ideal.ofBits .f32 0x44800000#32 = ((1024 : ℝ) : EReal) := by
  simp [Ideal.ofBits, Ideal.ieee, -EReal.coe_mul]; norm_num

theorem of_64 : Ideal.ofBits .f32 0x42800000#32 = ((64 : ℝ) : EReal) := by
  simp [Ideal.ofBits, Ideal.ieee, -EReal.coe_mul]; norm_num

theorem of_inv_64 : Ideal.ofBits .f32 0x3C800000#32 = ((1 / 64 : ℝ) : EReal) := by
  simp [Ideal.ofBits, Ideal.ieee, -EReal.coe_mul]; norm_num

/-- The constant added under a root is a positive real. -/
theorem of_eps : ∃ e : ℝ, 0 < e ∧ Ideal.ofBits .f32 0x358637BD#32 = (e : EReal) := by
  refine ⟨(8796093 : ℝ) / 2 ^ 43, by positivity, ?_⟩
  simp [Ideal.ofBits, Ideal.ieee, -EReal.coe_mul]; norm_num

theorem of_inf : Ideal.ofBits .f32 0x7F800000#32 = ⊤ := by
  simp [Ideal.ofBits, Ideal.ieee]

theorem of_neg_inf : Ideal.ofBits .f32 0xFF800000#32 = ⊥ := by
  simp [Ideal.ofBits, Ideal.ieee]

end Cert.Consts

end
-- ==== Proof.InProjReal.lean ====
module

public import proofs.«01_k».proof.Proof.InProjBody
public import proofs.«01_k».proof.Proof.Consts

@[expose] public section

noncomputable section

namespace Cert.InProj

open Idealize.ShloMosaic
open Cert.OutMlp (normed)

/-- A value that is a real number, neither infinity. -/
def IsReal (x : EReal) : Prop := ∃ a : ℝ, x = a

theorem IsReal.add {x y : EReal} (hx : IsReal x) (hy : IsReal y) : IsReal (x + y) := by
  obtain ⟨a, rfl⟩ := hx; obtain ⟨b, rfl⟩ := hy; exact ⟨a + b, rfl⟩

theorem IsReal.mul {x y : EReal} (hx : IsReal x) (hy : IsReal y) : IsReal (x * y) := by
  obtain ⟨a, rfl⟩ := hx; obtain ⟨b, rfl⟩ := hy; exact ⟨a * b, rfl⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- Below infinity in absolute value, a value is real. -/
theorem IsReal.of_abs_lt {x : EReal} (h : max x (-x) < ⊤) : IsReal x := by
  induction x using EReal.rec with
  | bot => simp at h
  | coe a => exact ⟨a, rfl⟩
  | top => simp at h

/-- A square is not negative. -/
theorem square_nonneg (x : EReal) : 0 ≤ x * x := by
  induction x using EReal.rec with
  | bot => simp
  | coe a => exact_mod_cast mul_self_nonneg a
  | top => simp

theorem rsqrt_top : Ideal.rsqrt ⊤ = 0 := rfl

theorem rsqrt_pos {r : ℝ} (h : 0 < r) : Ideal.rsqrt r = ((Real.sqrt r)⁻¹ : ℝ) := by
  show (if r < 0 then ⊥ else if r = 0 then ⊤ else (((Real.sqrt r)⁻¹ : ℝ) : EReal)) = _
  rw [if_neg (not_lt.mpr h.le), if_neg h.ne']

/-- A root mean square norm is real wherever its scale is: where the row holds an infinity the reciprocal root is zero. -/
theorem normed_real (x n : Fin 1024 → EReal) (hn : ∀ l, IsReal (n l)) (l : Fin 1024) : IsReal (normed x n l) := by
  obtain ⟨e, he, hE⟩ := Consts.of_eps
  unfold normed
  rw [Consts.of_1024, hE, Ideal.div_coe (by norm_num : (1024 : ℝ) ≠ 0)]
  have h0 : 0 ≤ ∑ k, x k * x k := Finset.sum_nonneg fun k _ => square_nonneg _
  have hle : x l * x l ≤ ∑ k, x k * x k := Finset.single_le_sum (fun k _ => square_nonneg (x k)) (Finset.mem_univ l)
  generalize (∑ k, x k * x k) = s at h0 hle
  refine IsReal.mul ?_ (hn l)
  induction s using EReal.rec with
  | bot => simp at h0
  | top =>
    rw [EReal.top_mul_coe_of_pos (by norm_num), EReal.top_add_coe]
    exact ⟨0, by rw [rsqrt_top, mul_zero]; rfl⟩
  | coe a =>
    have ha : 0 ≤ a := by exact_mod_cast h0
    have hx : IsReal (x l) := by
      generalize x l = y at hle
      induction y using EReal.rec with
      | bot => simp at hle
      | coe b => exact ⟨b, rfl⟩
      | top => simp at hle
    refine hx.mul ?_
    have hp : 0 < a * (1 / 1024) + e := by positivity
    refine ⟨(Real.sqrt (a * (1 / 1024) + e))⁻¹, ?_⟩
    rw [← EReal.coe_mul, ← EReal.coe_add, rsqrt_pos hp]

theorem project_real (x n : Fin 1024 → EReal) (w : Fin 1024 → Fin 4096 → EReal) (hn : ∀ l, IsReal (n l)) (hw : ∀ l k, IsReal (w l k)) (k : Fin 4096) :
    IsReal (project x n w k) :=
  IsReal.sum _ fun l => (normed_real x n hn l).mul (hw l k)

/-- The sum over two heads less the first head's is the second head's, where the first is real. -/
theorem rest {a b : EReal} (ha : IsReal a) : a + b - a = b := by
  obtain ⟨r, rfl⟩ := ha
  induction b using EReal.rec with
  | bot => simp
  | coe b => rw [← EReal.coe_add, ← EReal.coe_sub]; congr 1; ring
  | top => simp

/-- The lane's head, as the body selects it. -/
theorem first_head (d : Fin 128) : IntOp.cmpi CmpIPredicate.slt (BitVec.ofNat 32 d.val) 64#32 = if d.val < 64 then 1#1 else 0#1 := by
  revert d; decide

theorem headV_apply (s : FVec Ideal Kernel3Ideal.S1024x128 .f32) (w : FVec Ideal Kernel3Ideal.S1x1x128 .f32) (i : Fin 1024) (d : Fin 128)
    (hs : ∀ e, IsReal (s (ix2 i e))) :
    headV s w (ix3 0 i d) = headed (fun e => s (ix2 i e)) (fun e => w (ix3 0 0 e)) d := by
  have hsum : ∀ f : Fin 128 → EReal, (∑ x : Fin 128, Scalar.select (IntOp.cmpi CmpIPredicate.slt (BitVec.ofNat 32 x.val) 64#32) (f x) 0) = ∑ e : Fin 64, f ⟨e.val, by omega⟩ := fun f => by
    rw [Fin.sum_univ_two_halves 64 64 rfl]
    simp only [first_head]
    have h1 : (∑ x : Fin 64, Scalar.select (if x.val < 64 then 1#1 else 0#1) (f ⟨x.val, by omega⟩) 0) = ∑ x : Fin 64, f ⟨x.val, by omega⟩ :=
      Finset.sum_congr rfl fun x _ => by rw [if_pos x.isLt]; rfl
    have h2 : (∑ x : Fin 64, Scalar.select (if 64 + x.val < 64 then 1#1 else 0#1) (f ⟨64 + x.val, by omega⟩) 0) = (0 : EReal) :=
      Finset.sum_eq_zero fun x _ => by rw [if_neg (by omega)]; rfl
    exact (congrArg₂ (· + ·) h1 h2).trans (add_zero _)
  pointwise [headV, Kernel3Ideal.Gen.k0_pay21, Kernel3Ideal.Gen.k0_pay3, headed]
  rw [hsum (fun x => s (ix2 i x) * s (ix2 i x)), Fin.sum_univ_two_halves 64 64 rfl (fun x : Fin 128 => s (ix2 i x) * s (ix2 i x)),
    rest (IsReal.sum _ fun e => (hs _).mul (hs _)), first_head, Consts.of_64, Consts.of_inv_64, Ideal.div_coe (by norm_num : (64 : ℝ) ≠ 0)]
  congr 3
  by_cases h : d.val < 64
  · rw [if_pos h]
    have h0 : d.val / 64 = 0 := by omega
    simp only [h0, Nat.mul_zero, Nat.zero_add]
    rfl
  · rw [if_neg h]
    have h0 : d.val / 64 = 1 := by omega
    simp only [h0, Nat.mul_one]
    rfl

end Cert.InProj

end
-- ==== Proof.InProjValue.lean ====
module

public import proofs.«01_k».proof.Proof.InProjReal
public import proofs.«01_k».proof.Proof.Gen.Kernel3Ideal.Value
public import Idealize.ShloMosaic.Lib.Pipeline.ValueKit.Point
public import Idealize.ShloMosaic.Lib.Claim

@[expose] public section

set_option maxRecDepth 16384

noncomputable section

namespace Cert.InProj

open Idealize.ShloMosaic Idealize.ShloMosaic.TcCoe Idealize.SL.Sem Cert.Kernel3Ideal Cert.Kernel3Ideal.Gen
open Idealize.ShloMosaic.Pipeline (Dat)

/-- The lane scales of slab `b`: the query scale over the root of the head size in the first four, the key scale in the next four. -/
def scale (q k : Fin 64 → EReal) (b : Fin 32) (d : Fin 128) : EReal :=
  if b.val < 4 then q ⟨d.val % 64, by omega⟩ * Ideal.ofBits .f32 0x3E000000#32 else k ⟨d.val % 64, by omega⟩

/-- Slab `b` of a projected row: normed by heads in the first eight, as it is in the others. -/
def entry (p : Fin 4096 → EReal) (q k : Fin 64 → EReal) (b : Fin 32) (d : Fin 128) : EReal :=
  if b.val < 8 then headed (fun e => p ⟨128 * b.val + e.val, by omega⟩) (scale q k b) d else p ⟨128 * b.val + d.val, by omega⟩

variable (m : (ℓ : Loc nD τ sig) → Buf (Elt Ideal) ℓ)

/-- Where each window stands at a grid point. -/
theorem idx : ∀ t : Fin cfg0.N, win0_0.index t = ![t.val, 0] ∧ win0_1.index t = ![0, 0] ∧ win0_2.index t = ![0, 0]
    ∧ win0_3.index t = ![0, 0, 0] ∧ win0_4.index t = ![0, t.val, 0] :=
  (by decide +kernel : ∀ t : Fin grid0.N, _)

theorem tokens (t : Fin cfg0.N) : t.val < 64 := t.isLt.trans_eq N_0

/-- A token's projected row, from the argument arrays. -/
def rowOf (c : Dev nD) (r : Fin 65536) : Fin 4096 → EReal :=
  project (fun l => m ((c : Thread nD τ).loc main_arg0) (ix2 r l)) (fun l => m ((c : Thread nD τ).loc main_arg1) (ix2 0 l))
    (fun l k => m ((c : Thread nD τ).loc main_arg2) (ix3 0 l k))

/-- The result array as one function of the argument arrays. -/
def result (c : Dev nD) : Buf (Elt Ideal) ((c : Thread nD τ).loc main_v25) := fun i =>
  entry (rowOf m c (i 1)) (fun e => m ((c : Thread nD τ).loc main_arg3) (ix2 0 e)) (fun e => m ((c : Thread nD τ).loc main_arg4) (ix2 0 e)) (i 0) (i 2)

theorem block0 (c : Dev nD) (t : Fin cfg0.N) (i : Fin 1024) (k : Fin 1024) :
    iblk m c 0 t (ix2 i k) = m ((c : Thread nD τ).loc main_arg0) (ix2 ⟨t.val * 1024 + i.val, by have := tokens t; omega⟩ k) := by
  blk_ext [iblk, V, idx t]
theorem block1 (c : Dev nD) (t : Fin cfg0.N) (k : Fin 1024) :
    iblk m c 1 t (ix2 0 k) = m ((c : Thread nD τ).loc main_arg1) (ix2 0 k) := by
  have h : iblk m c 1 t (ix2 0 k) = V m c main_v1 (ix2 0 k) := by blk_ext [iblk, idx t]
  rw [h]
  entry_read
  pointwise
theorem block2 (c : Dev nD) (t : Fin cfg0.N) (k : Fin 1024) (f : Fin 4096) :
    iblk m c 2 t (ix2 k f) = m ((c : Thread nD τ).loc main_arg2) (ix3 0 k f) := by
  have h : iblk m c 2 t (ix2 k f) = V m c main_v3 (ix2 k f) := by blk_ext [iblk, idx t]
  rw [h]
  entry_read
  pointwise
theorem block3 (c : Dev nD) (t : Fin cfg0.N) (b : Fin 8) (e : Fin 128) :
    iblk m c 3 t (ix3 b 0 e) = scale (fun e => m ((c : Thread nD τ).loc main_arg3) (ix2 0 e)) (fun e => m ((c : Thread nD τ).loc main_arg4) (ix2 0 e)) ⟨b.val, by omega⟩ e := by
  have h : iblk m c 3 t (ix3 b 0 e) = V m c main_v24 (ix3 b 0 e) := by blk_ext [iblk, idx t]
  rw [h]
  entry_read
  pointwise [scale]
  rfl

/-- The rows of a tile's projection are the tokens' projected rows. -/
theorem rows_block (c : Dev nD) (t : Fin cfg0.N) (i : Fin 1024) (k : Fin 4096) :
    rowsV (iblk m c 0 t) (iblk m c 1 t) (iblk m c 2 t) (ix2 i k) = rowOf m c ⟨t.val * 1024 + i.val, by have := tokens t; omega⟩ k := by
  rw [rowsV_apply]
  simp only [block0, block1, block2]
  rfl

theorem plain_tile (c : Dev nD) (t : Fin cfg0.N) (q : Fin 32) (hq : 8 ≤ q.val) (z : Fin 1) (i : Fin 1024) (d : Fin 128) :
    plainV (slab (rowsV (iblk m c 0 t) (iblk m c 1 t) (iblk m c 2 t)) q) (ix3 z i d)
      = result m c (ix3 q ⟨t.val * 1024 + i.val, by have := tokens t; omega⟩ d) := by
  rw [Subsingleton.elim z 0, plainV_apply, slab_apply, rows_block]
  exact (if_neg (not_lt.mpr hq)).symm

theorem head_tile (c : Dev nD) (hr : ∀ r k, IsReal (rowOf m c r k)) (t : Fin cfg0.N) (w : FVec Ideal S1x1x128 .f32) (q : Fin 32) (hq : q.val < 8)
    (hw : ∀ e, w (ix3 0 0 e) = iblk m c 3 t (ix3 ⟨q.val, hq⟩ 0 e)) (z : Fin 1) (i : Fin 1024) (d : Fin 128) :
    headV (slab (rowsV (iblk m c 0 t) (iblk m c 1 t) (iblk m c 2 t)) q) w (ix3 z i d)
      = result m c (ix3 q ⟨t.val * 1024 + i.val, by have := tokens t; omega⟩ d) := by
  have hs : ∀ e, slab (rowsV (iblk m c 0 t) (iblk m c 1 t) (iblk m c 2 t)) q (ix2 i e)
      = rowOf m c ⟨t.val * 1024 + i.val, by have := tokens t; omega⟩ ⟨128 * q.val + e.val, by omega⟩ := fun e => by
    rw [slab_apply, rows_block]
  rw [Subsingleton.elim z 0, headV_apply _ _ _ _ fun e => by rw [hs]; exact hr _ _]
  simp only [hs, hw, block3]
  exact (if_pos hq).symm

/-- Where a tile's entry stands in the array. -/
theorem place (t : Fin cfg0.N) (y : ((cfg0.win 4).xblock (cfg0.grid.coords t)).Idx) (q : Fin 32) (i : Fin 1024) (d : Fin 128)
    (h0 : (y 0).val = q.val) (h1 : (y 1).val = i.val) (h2 : (y 2).val = d.val) :
    (win0_4.blk t).view.emb y = ix3 q ⟨t.val * 1024 + i.val, by have := tokens t; omega⟩ d := by
  blk_ext [idx t]

attribute [local irreducible] plainV headV slab rowsV

set_option maxHeartbeats 4000000 in
/-- The result array after the run: the 64 tiles cover it, slab by slab. -/
theorem final (c : Dev nD) (hr : ∀ r k, IsReal (rowOf m c r k)) : (dats m 0 c).arrAt 4 cfg0.N = result m c := by
  refine (dats m 0 c).arrAt_eq_of_covers 4 _ (by decide +kernel) fun t hf y => ?_
  blk_simp
  rw [after0_4, out_slabs]
  canon_tiles x h
  all_goals idx_vars x
  iterate 24
    refine (plain_tile m c t _ (by decide) _ _ _).trans ?_
    rw [place t y _ x1 x2 (h0.trans ?_) h1 h2]
    · omega
  iterate 8
    refine (head_tile m c hr t _ _ (by decide) (fun e => ?_) _ _ _).trans ?_
    · pointwise
    rw [place t y _ x1 x2 (h0.trans ?_) h1 h2]
    · omega

end Cert.InProj

end
-- ==== Proof.InProjRef.lean ====
module

public import proofs.«01_k».proof.Proof.InProjValue
public import proofs.«01_k».proof.Proof.Gen.Reference3Ideal.Run

@[expose] public section

set_option maxRecDepth 16384

noncomputable section

namespace Cert.InProjRef

open Idealize.ShloMosaic Idealize.ShloMosaic.TcCoe Idealize.SL.Sem Cert.Reference3Ideal Cert.Reference3Ideal.Gen
open Cert.OutMlp (normed)
open Cert.InProj (project headed scale entry)

/-- The projected rows. -/
def rowsR (x : FVec Ideal S65536x1024 .f32) (n : FVec Ideal S1x1024 .f32) (w : FVec Ideal S1x1024x4096 .f32) : FVec Ideal S65536x4096 .f32 :=
  Host.dotGeneral dot_S65536x1024_S1024x4096_S65536x4096_1_0_0_1_n_n none
    (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
      (broadcastInDim S65536x1024 ![0, 1] bcast_S1x1024_S65536x1024_0_1 (broadcastInDim S1x1024 ![1] bcast_S1024_S1x1024_1 (shapeCast _ n shapeCasts_S1x1024_S1024))))
    (shapeCast _ w shapeCasts_S1x1024x4096_S1024x4096)

/-- Eight heads, each normed over its 64 lanes. -/
def headsR (h : FVec Ideal S65536x8x64 .f32) (w : FVec Ideal S1x64 .f32) : FVec Ideal S65536x8x64 .f32 :=
  mulf (mulf h (broadcastInDim S65536x8x64 ![0, 1, 2] bcast_S65536x8x1_S65536x8x64_0_1_2 (Host.rsqrt (addf (Host.divf (broadcastInDim S65536x8x1 ![0, 1] bcast_S65536x8_S65536x8x1_0_1 (Host.reduceAdd (mulf h h) (constant S_ .f32 0x00000000#32) reducesTo_S65536x8x64_S65536x8_d2 h_S_)) (broadcastInDim S65536x8x1 ![] bcast_S_S65536x8x1 (constant S_ .f32 0x42800000#32))) (broadcastInDim S65536x8x1 ![] bcast_S_S65536x8x1 (constant S_ .f32 0x358637BD#32))))))
    (broadcastInDim S65536x8x64 ![0, 1, 2] bcast_S1x1x64_S65536x8x64_0_1_2 (broadcastInDim S1x1x64 ![2] bcast_S64_S1x1x64_2 (shapeCast _ w shapeCasts_S1x64_S64)))

/-- The three parts side by side, laid out in slabs of 128 lanes. -/
def slabsR (p : FVec Ideal S65536x4096 .f32) (q k : FVec Ideal S65536x8x64 .f32) : FVec Ideal S32x65536x128 .bf16 :=
  truncf .bf16 (transpose S32x65536x128 [1, 0, 2] (shapeCast S65536x32x128 (concatenate S65536x4096 1
    [⟨S65536x512, (shapeCast S65536x512 q shapeCasts_S65536x8x64_S65536x512)⟩, ⟨S65536x512, (shapeCast S65536x512 k shapeCasts_S65536x8x64_S65536x512)⟩,
     ⟨S65536x3072, extractStridedSlice S65536x3072 ![0, 1024] p slices_S65536x4096_S65536x3072_0_1024⟩]
    concatenates_S65536x512_S65536x512_S65536x3072_S65536x4096_d1) shapeCasts_S65536x4096_S65536x32x128) transposes_S65536x32x128_S32x65536x128_1_0_2) bitsLt_bf16_f32

theorem rowsR_apply (x : FVec Ideal S65536x1024 .f32) (n : FVec Ideal S1x1024 .f32) (w : FVec Ideal S1x1024x4096 .f32) (r : Fin 65536) (k : Fin 4096) :
    rowsR x n w (ix2 r k) = project (fun l => x (ix2 r l)) (fun l => n (ix2 0 l)) (fun l k => w (ix3 0 l k)) k := by
  pointwise [rowsR, project, normed]

theorem headsR_apply (h : FVec Ideal S65536x8x64 .f32) (w : FVec Ideal S1x64 .f32) (r : Fin 65536) (a : Fin 8) (e : Fin 64) :
    headsR h w (ix3 r a e) = h (ix3 r a e) * Ideal.rsqrt (Ideal.div (∑ l, h (ix3 r a l) * h (ix3 r a l)) (Ideal.ofBits .f32 0x42800000#32) + Ideal.ofBits .f32 0x358637BD#32) * w (ix2 0 e) := by
  pointwise [headsR]

theorem slabsR_apply (p : FVec Ideal S65536x4096 .f32) (q k : FVec Ideal S65536x8x64 .f32) (b : Fin 32) (r : Fin 65536) (d : Fin 128) :
    slabsR p q k (ix3 b r d) = if h : b.val < 4 then q (ix3 r ⟨2 * b.val + d.val / 64, by omega⟩ ⟨d.val % 64, by omega⟩)
      else if h : b.val < 8 then k (ix3 r ⟨2 * (b.val - 4) + d.val / 64, by omega⟩ ⟨d.val % 64, by omega⟩) else p (ix2 r ⟨128 * b.val + d.val, by omega⟩) := by
  pointwise [slabsR]
  by_cases h4 : b.val < 4
  · rw [dif_pos (by omega), dif_pos h4]
    congr 3 <;> omega
  by_cases h8 : b.val < 8
  · rw [dif_neg (by omega), dif_pos (by omega), dif_neg h4, dif_pos h8]
    congr 3 <;> omega
  · rw [dif_neg (by omega), dif_neg (by omega), dif_neg h4, dif_neg h8]
    congr 3; omega

/-- A slab's lanes of the normed heads, the heads cut from column `o` on. -/
theorem headed_of (h : FVec Ideal S65536x8x64 .f32) (w : FVec Ideal S1x64 .f32) (r : Fin 65536) (a : Fin 4) (d : Fin 128) (P : Fin 128 → EReal)
    (hP : ∀ (z : Fin 2) (l : Fin 64), h (ix3 r ⟨2 * a.val + z.val, by omega⟩ l) = P ⟨64 * z.val + l.val, by omega⟩) :
    headsR h w (ix3 r ⟨2 * a.val + d.val / 64, by omega⟩ ⟨d.val % 64, by omega⟩) = headed P (fun e => w (ix2 0 ⟨e.val % 64, by omega⟩)) d := by
  have hd := hP ⟨d.val / 64, by omega⟩
  have he : (⟨64 * (d.val / 64) + d.val % 64, by omega⟩ : Fin 128) = d := Fin.ext (Nat.div_add_mod _ _)
  rw [headsR_apply]
  simp only [hd, he]
  rfl

variable (m : (ℓ : Loc nD τ sig) → Buf (Elt Ideal) ℓ)

/-- The projected rows of the reference's arguments. -/
def rowsOf (c : Dev nD) : FVec Ideal S65536x4096 .f32 :=
  rowsR (m ((c.tc : Thread nD τ).loc main_arg0)) (m ((c.tc : Thread nD τ).loc main_arg1)) (m ((c.tc : Thread nD τ).loc main_arg2))

theorem res_eq (c : Dev nD) : Value.res_out0 m c =
    slabsR (rowsOf m c)
      (mulf (headsR (shapeCast S65536x8x64 (extractStridedSlice S65536x512 ![0, 0] (rowsOf m c) slices_S65536x4096_S65536x512_0_0) shapeCasts_S65536x512_S65536x8x64) (m ((c.tc : Thread nD τ).loc main_arg3)))
        (broadcastInDim S65536x8x64 ![] bcast_S_S65536x8x64 (constant S_ .f32 0x3E000000#32)))
      (headsR (shapeCast S65536x8x64 (extractStridedSlice S65536x512 ![0, 512] (rowsOf m c) slices_S65536x4096_S65536x512_0_512) shapeCasts_S65536x512_S65536x8x64) (m ((c.tc : Thread nD τ).loc main_arg4))) := rfl

/-- The reference's result, slab by slab. -/
theorem res_apply (c : Dev nD) (b : Fin 32) (r : Fin 65536) (d : Fin 128) : Value.res_out0 m c (ix3 b r d) =
    entry (project (fun l => m ((c.tc : Thread nD τ).loc main_arg0) (ix2 r l)) (fun l => m ((c.tc : Thread nD τ).loc main_arg1) (ix2 0 l))
        (fun l k => m ((c.tc : Thread nD τ).loc main_arg2) (ix3 0 l k)))
      (fun e => m ((c.tc : Thread nD τ).loc main_arg3) (ix2 0 e)) (fun e => m ((c.tc : Thread nD τ).loc main_arg4) (ix2 0 e)) b d := by
  have hp : ∀ k, rowsOf m c (ix2 r k) = project (fun l => m ((c.tc : Thread nD τ).loc main_arg0) (ix2 r l)) (fun l => m ((c.tc : Thread nD τ).loc main_arg1) (ix2 0 l))
        (fun l k => m ((c.tc : Thread nD τ).loc main_arg2) (ix3 0 l k)) k := fun k => by
    unfold rowsOf
    rw [rowsR_apply]
  rw [res_eq, slabsR_apply]
  generalize rowsOf m c = R at hp
  generalize project _ _ _ = p at hp
  unfold entry
  by_cases h4 : b.val < 4
  · have hP : ∀ (z : Fin 2) (l : Fin 64), shapeCast S65536x8x64 (extractStridedSlice S65536x512 ![0, 0] R slices_S65536x4096_S65536x512_0_0) shapeCasts_S65536x512_S65536x8x64
        (ix3 r ⟨2 * b.val + z.val, by omega⟩ l) = (fun e : Fin 128 => p ⟨128 * b.val + e.val, by omega⟩) ⟨64 * z.val + l.val, by omega⟩ := fun z l => by
      pointwise
      rw [hp]
      congr 2; omega
    rw [dif_pos h4, if_pos (by omega)]
    refine (congrArg (· * Ideal.ofBits .f32 0x3E000000#32) (headed_of _ _ r ⟨b.val, h4⟩ d (fun e : Fin 128 => p ⟨128 * b.val + e.val, by omega⟩) hP)).trans ?_
    unfold headed scale
    rw [if_pos h4]
    exact mul_assoc _ _ _
  by_cases h8 : b.val < 8
  · have hP : ∀ (z : Fin 2) (l : Fin 64), shapeCast S65536x8x64 (extractStridedSlice S65536x512 ![0, 512] R slices_S65536x4096_S65536x512_0_512) shapeCasts_S65536x512_S65536x8x64
        (ix3 r ⟨2 * (b.val - 4) + z.val, by omega⟩ l) = (fun e : Fin 128 => p ⟨128 * b.val + e.val, by omega⟩) ⟨64 * z.val + l.val, by omega⟩ := fun z l => by
      pointwise
      rw [hp]
      congr 2; omega
    rw [dif_neg h4, dif_pos h8, if_pos h8]
    refine (headed_of _ _ r ⟨b.val - 4, by omega⟩ d (fun e : Fin 128 => p ⟨128 * b.val + e.val, by omega⟩) hP).trans ?_
    unfold headed scale
    rw [if_neg h4]
  · rw [dif_neg h4, dif_neg h8, if_neg h8, hp]

end Cert.InProjRef

end
-- ==== Proof.InProjClaim.lean ====
module

public import proofs.«01_k».proof.Defs
public import proofs.«01_k».proof.Proof.Gen.Pre_finite
public import proofs.«01_k».proof.Proof.Gen.Kernel3Ideal.Frame
public import proofs.«01_k».proof.Proof.InProjValue
public import proofs.«01_k».proof.Proof.InProjRef

@[expose] public section

set_option maxRecDepth 16384

noncomputable section

namespace Cert.Proof

open Idealize.ShloMosaic Idealize.ShloMosaic.TcCoe Idealize.SL.Sem
open Cert.InProj (IsReal rowOf)

/-- One bit of a comparison with infinity: set, the compared value is real. -/
theorem real_of_bit {x : EReal} (h : FloatOps.cmpf (F := Ideal) (φ := .f32) .olt (max x (-x)) (Ideal.ofBits .f32 0x7F800000#32) = 1#1) : IsReal x := by
  rw [Consts.of_inf] at h
  refine IsReal.of_abs_lt ?_
  by_contra hx
  rw [show FloatOps.cmpf (F := Ideal) (φ := .f32) .olt (max x (-x)) ⊤ = BitVec.ofBool (decide (max x (-x) < ⊤)) from rfl, decide_eq_false hx] at h
  exact absurd h (by decide)

/-- Under the precondition every projected row is real. -/
theorem rows_real (m : (ℓ : Loc Cert.Kernel3Ideal.nD Cert.Kernel3Ideal.τ Cert.Kernel3Ideal.sig) → Buf (Elt Ideal) ℓ) (h : Cert.Pre_Kernel3Ideal_finite m) (c : Dev Cert.Kernel3Ideal.nD)
    (r : Fin 65536) (k : Fin 4096) : IsReal (rowOf m c r k) := by
  obtain ⟨h1, h2⟩ := h c
  refine InProj.project_real _ _ _ (fun l => ?_) (fun l k => ?_) k
  · have hl := congrFun h1 (ix2 0 l)
    simp only [Cert.Pre_finite.fn] at hl
    pointwise at hl
    exact real_of_bit hl
  · have hl := congrFun h2 (ix3 0 l k)
    simp only [Cert.Pre_finite.fn] at hl
    pointwise at hl
    exact real_of_bit hl

/-- From arguments that agree, the kernel's array is the reference's. -/
theorem proj_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    (Cert.Reference3Ideal.Value.res_out0 m' c : Vec Ideal Cert.Kernel3Ideal.S32x65536x128 .bf16) = Cert.InProj.result m c := by
  funext i
  obtain ⟨b, r, d, rfl⟩ : ∃ (b : Fin 32) (r : Fin 65536) (d : Fin 128), i = ix3 b r d := ⟨i 0, i 1, i 2, eq_ix3 i⟩
  refine (Cert.InProjRef.res_apply m' c b r d).trans ?_
  rw [h0, h1, h2, h3, h4]
  rfl

/-- The two frames under the precondition: the frames need none. -/
theorem finiteKept3 : Cert.quiescent_Kernel3Ideal_pre_finite := fun m ρ _ => Cert.Kernel3Ideal.Gen.frame m ρ
theorem finiteKeptRef3 : Cert.quiescent_Reference3Ideal_pre_finite := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal_pre_finite := by
  intro m ρ m' ρ' hpre hag
  refine ⟨fun c => Cert.InProj.result m c, ?_, ?_⟩
  · exact (θ_run Cert.Kernel3Ideal.defs _ _).mono (fun _ h c => ⟨(h c).1.trans (Cert.InProj.final m c (rows_real m hpre c)), (h c).2⟩)
      (Cert.Kernel3Ideal.Value.run_blocks (F := Ideal) m ρ)
  · refine (θ_run Cert.Reference3Ideal.defs _ _).mono (fun _ h c => ⟨(h c).1.trans ?_, (h c).2⟩) (Cert.Reference3Ideal.Value.run (F := Ideal) m' ρ')
    obtain ⟨h0, h1, h2, h3, h4⟩ := hag c
    exact proj_agree m m' c h0 h1 h2 h3 h4

end Cert.Proof

end
-- ==== Proof.NattenSpec.lean ====
module

public import Idealize.ShloMosaic.PureOps.Ideal
public import Idealize.ShloMosaic.Lib.IdealHost

@[expose] public section

noncomputable section

/-! Attention over a neighbourhood of a grid of 32 rows and 64 columns, as plain sums. -/

namespace Cert.Natten

open Idealize.ShloMosaic

/-- A key row lies in a query row's window of eight. -/
abbrev NearRow (r u : ℕ) : Prop := min (r - 4) 24 ≤ u ∧ u < min (r - 4) 24 + 8
/-- A key column lies in a query column's window of sixteen. -/
abbrev NearCol (c w : ℕ) : Prop := min (c - 8) 48 ≤ w ∧ w < min (c - 8) 48 + 16

/-- The score of a query at token `s` and a key at token `u`. -/
def pair (q k : Fin 64 → EReal) (t : Fin 15 → Fin 31 → EReal) (s u : Fin 2048) : EReal :=
  if NearRow (s.val / 64) (u.val / 64) ∧ NearCol (s.val % 64) (u.val % 64) then
    (∑ e, q e * k e) + t ⟨min (u.val / 64 + 7 - s.val / 64) 14, by omega⟩ ⟨min (u.val % 64 + 15 - s.val % 64) 30, by omega⟩
  else ⊥

/-- The greatest of the scores. -/
def top {ι : Type} [Fintype ι] (S : ι → EReal) : EReal := (Finset.univ : Finset ι).fold max ⊥ S

/-- The values weighted by the softmax of the scores. -/
def attended {ι : Type} [Fintype ι] (S v : ι → EReal) : EReal :=
  ∑ u, Ideal.div (Ideal.exp (S u - top S)) (∑ l, Ideal.exp (S l - top S)) * v u

/-- The same with the division after the sum. -/
def attendedLate {ι : Type} [Fintype ι] (S v : ι → EReal) : EReal :=
  Ideal.div (∑ u, Ideal.exp (S u - top S) * v u) (∑ l, Ideal.exp (S l - top S))

end Cert.Natten

end
-- ==== Proof.NattenBias.lean ====
module

public import proofs.«01_k».proof.Proof.Gen.KernelIdeal.Value
public import proofs.«01_k».proof.Proof.NattenSpec
public import proofs.«01_k».proof.Proof.Consts
public import Idealize.ShloMosaic.Lib.Pipeline.ValueKit.Point
public import Idealize.ShloMosaic.Lib.Claim
public import Idealize.ShloMosaic.Lib.StableHlo.RunRead

@[expose] public section

set_option maxRecDepth 16384

noncomputable section

namespace Cert.Natten

open Idealize.ShloMosaic Idealize.ShloMosaic.TcCoe Idealize.SL.Sem Cert.KernelIdeal Cert.KernelIdeal.Gen

/-- The one-hot table: which column of the bias stands between a query column and a key column of a strip. -/
def hot : FVec Ideal S31x4x16x32 .f32 := fun i => Ideal.ofBits .f32 (lit0 (S31x4x16x32.rowMajor i))

/-- The mask of a strip: minus infinity at the key columns away from a query column. -/
def wall : FVec Ideal S1x4x16x1x32 .f32 := fun i => Ideal.ofBits .f32 (lit1 (S1x4x16x1x32.rowMajor i))

/-- The bias between the columns of a strip, for each head and each row of the bias. -/
def strips (a : FVec Ideal S1x8x15x31 .f32) : FVec Ideal S8x4x16x15x32 .f32 :=
  addf (transpose S8x4x16x15x32 [3, 0, 1, 4, 2] (Host.dotGeneral dot_S31x4x16x32_S8x15x31_S4x16x32x8x15_0_2_123_01_n_n (some .fp32) hot
      (shapeCast S8x15x31 a shapeCasts_S1x8x15x31_S8x15x31)) transposes_S4x16x32x8x15_S8x4x16x15x32_3_0_1_4_2)
    (broadcastInDim S8x4x16x15x32 ![0, 1, 2, 3, 4] bcast_S1x4x16x1x32_S8x4x16x15x32_0_1_2_3_4 wall)

/-- The strips' bias by slabs of heads, with a row of the bias and a key column on one axis. -/
def regroup (x : FVec Ideal S8x4x16x15x32 .f32) : FVec Ideal S4x4x2x16x480 .f32 :=
  transpose S4x4x2x16x480 [0, 2, 1, 3, 4] (shapeCast S4x2x4x16x480 x shapeCasts_S8x4x16x15x32_S4x2x4x16x480) transposes_S4x2x4x16x480_S4x4x2x16x480_0_2_1_3_4

/-- Eight rows of the bias, from position `o`, standing at position `f` among minus infinities. -/
def piece (o f g : ℕ) (hs : S4x4x2x16x480.Slices ![0, 0, 0, 0, o] S4x4x2x16x256)
    (hp : S4x4x2x16x256.Pads ![0, 0, 0, 0, f] ![0, 0, 0, 0, g] ![0, 0, 0, 0, 0] S4x4x2x16x384) (x : FVec Ideal S4x4x2x16x480 .f32) :
    FVec Ideal S4x4x2x16x384 .f32 :=
  pad S4x4x2x16x384 ![0, 0, 0, 0, f] ![0, 0, 0, 0, g] ![0, 0, 0, 0, 0] (extractStridedSlice S4x4x2x16x256 ![0, 0, 0, 0, o] x hs)
    (constant S_ .f32 0xFF800000#32 : FVec Ideal S_ .f32) hp h_S_

/-- The pieces of a tile's four rows of queries. -/
def fourRows (x0 x1 x2 x3 : FVec Ideal S4x4x2x16x384 .f32) : FVec Ideal S4x4x4x2x16x384 .f32 :=
  concatenate S4x4x4x2x16x384 2
    [⟨S4x4x1x2x16x384, broadcastInDim S4x4x1x2x16x384 ![0, 1, 3, 4, 5] bcast_S4x4x2x16x384_S4x4x1x2x16x384_0_1_3_4_5 x0⟩,
      ⟨S4x4x1x2x16x384, broadcastInDim S4x4x1x2x16x384 ![0, 1, 3, 4, 5] bcast_S4x4x2x16x384_S4x4x1x2x16x384_0_1_3_4_5 x1⟩,
      ⟨S4x4x1x2x16x384, broadcastInDim S4x4x1x2x16x384 ![0, 1, 3, 4, 5] bcast_S4x4x2x16x384_S4x4x1x2x16x384_0_1_3_4_5 x2⟩,
      ⟨S4x4x1x2x16x384, broadcastInDim S4x4x1x2x16x384 ![0, 1, 3, 4, 5] bcast_S4x4x2x16x384_S4x4x1x2x16x384_0_1_3_4_5 x3⟩]
    concatenates_S4x4x1x2x16x384_S4x4x1x2x16x384_S4x4x1x2x16x384_S4x4x1x2x16x384_S4x4x4x2x16x384_d2

/-- The pieces of the three kinds of tiles: the first of a map, an inner one, the last. -/
def threeKinds (x0 x1 x2 : FVec Ideal S4x4x4x2x16x384 .f32) : FVec Ideal S3x4x4x4x2x16x384 .f32 :=
  concatenate S3x4x4x4x2x16x384 0
    [⟨S1x4x4x4x2x16x384, broadcastInDim S1x4x4x4x2x16x384 ![1, 2, 3, 4, 5, 6] bcast_S4x4x4x2x16x384_S1x4x4x4x2x16x384_1_2_3_4_5_6 x0⟩,
      ⟨S1x4x4x4x2x16x384, broadcastInDim S1x4x4x4x2x16x384 ![1, 2, 3, 4, 5, 6] bcast_S4x4x4x2x16x384_S1x4x4x4x2x16x384_1_2_3_4_5_6 x1⟩,
      ⟨S1x4x4x4x2x16x384, broadcastInDim S1x4x4x4x2x16x384 ![1, 2, 3, 4, 5, 6] bcast_S4x4x4x2x16x384_S1x4x4x4x2x16x384_1_2_3_4_5_6 x2⟩]
    concatenates_S1x4x4x4x2x16x384_S1x4x4x4x2x16x384_S1x4x4x4x2x16x384_S3x4x4x4x2x16x384_d0

/-- The pieces of one kind of tile over the regrouped strips. -/
def firstTile (x : FVec Ideal S4x4x2x16x480 .f32) : FVec Ideal S4x4x4x2x16x384 .f32 :=
  fourRows (piece 224 0 128 (by decide) (by decide) x) (piece 192 0 128 (by decide) (by decide) x)
    (piece 160 0 128 (by decide) (by decide) x) (piece 128 0 128 (by decide) (by decide) x)
@[inherit_doc firstTile] def innerTile (x : FVec Ideal S4x4x2x16x480 .f32) : FVec Ideal S4x4x4x2x16x384 .f32 :=
  fourRows (piece 96 0 128 (by decide) (by decide) x) (piece 96 32 96 (by decide) (by decide) x)
    (piece 96 64 64 (by decide) (by decide) x) (piece 96 96 32 (by decide) (by decide) x)
@[inherit_doc firstTile] def lastTile (x : FVec Ideal S4x4x2x16x480 .f32) : FVec Ideal S4x4x4x2x16x384 .f32 :=
  fourRows (piece 96 128 0 (by decide) (by decide) x) (piece 64 128 0 (by decide) (by decide) x)
    (piece 32 128 0 (by decide) (by decide) x) (piece 0 128 0 (by decide) (by decide) x)

/-- The bias array the tiles read. -/
def biasOf (a : FVec Ideal S1x8x15x31 .f32) : FVec Ideal S3x4x4x128x384 .f32 :=
  shapeCast S3x4x4x128x384 (threeKinds (firstTile (regroup (strips a))) (innerTile (regroup (strips a))) (lastTile (regroup (strips a))))
    shapeCasts_S3x4x4x4x2x16x384_S3x4x4x128x384

theorem strips_apply (a : FVec Ideal S1x8x15x31 .f32) (h : Fin 8) (t : Fin 4) (i : Fin 16) (r : Fin 15) (k : Fin 32) :
    strips a (ix5 h t i r k) = (∑ c : Fin 31, hot (ix4 c t i k) * a (ix4 0 h r c)) + wall (ix5 0 t i 0 k) := by
  pointwise [strips]

theorem regroup_apply (x : FVec Ideal S8x4x16x15x32 .f32) (p : Fin 4) (t : Fin 4) (z : Fin 2) (i : Fin 16) (r : Fin 15) (k : Fin 32) :
    regroup x (ix5 p t z i ⟨32 * r.val + k.val, by omega⟩) = x (ix5 ⟨2 * p.val + z.val, by omega⟩ t i r k) := by
  pointwise [regroup]
  exact congrArg (fun h => x (ix5 h t i r k)) (Fin.ext (show p.val * 2 + z.val = 2 * p.val + z.val by omega))

theorem piece_apply (o f g : ℕ) (hs : S4x4x2x16x480.Slices ![0, 0, 0, 0, o] S4x4x2x16x256)
    (hp : S4x4x2x16x256.Pads ![0, 0, 0, 0, f] ![0, 0, 0, 0, g] ![0, 0, 0, 0, 0] S4x4x2x16x384) (x : FVec Ideal S4x4x2x16x480 .f32)
    (ho : o ≤ 224) (p t : Fin 4) (z : Fin 2) (i : Fin 16) (c : Fin 384) :
    piece o f g hs hp x (ix5 p t z i c) = if h : f ≤ c.val ∧ c.val < f + 256 then x (ix5 p t z i ⟨o + (c.val - f), by omega⟩) else ⊥ := by
  unfold piece
  rw [pad_apply]
  by_cases h : f ≤ c.val ∧ c.val < f + 256
  · rw [dif_pos h, dif_pos fun e => ?_]
    · refine congrArg x ?_
      funext e
      apply Fin.ext
      match e with
      | 0 => show 0 + (p.val - 0) / (0 + 1) = p.val; omega
      | 1 => show 0 + (t.val - 0) / (0 + 1) = t.val; omega
      | 2 => show 0 + (z.val - 0) / (0 + 1) = z.val; omega
      | 3 => show 0 + (i.val - 0) / (0 + 1) = i.val; omega
      | 4 => show o + (c.val - f) / (0 + 1) = o + (c.val - f); omega
    · match e with
      | 0 => show 0 ≤ p.val ∧ (p.val - 0) % (0 + 1) = 0 ∧ (p.val - 0) / (0 + 1) < 4; omega
      | 1 => show 0 ≤ t.val ∧ (t.val - 0) % (0 + 1) = 0 ∧ (t.val - 0) / (0 + 1) < 4; omega
      | 2 => show 0 ≤ z.val ∧ (z.val - 0) % (0 + 1) = 0 ∧ (z.val - 0) / (0 + 1) < 2; omega
      | 3 => show 0 ≤ i.val ∧ (i.val - 0) % (0 + 1) = 0 ∧ (i.val - 0) / (0 + 1) < 16; omega
      | 4 => show f ≤ c.val ∧ (c.val - f) % (0 + 1) = 0 ∧ (c.val - f) / (0 + 1) < 256; omega
  · rw [dif_neg h, dif_neg fun e => h ?_]
    · exact Cert.Consts.of_neg_inf
    · have e4 : f ≤ c.val ∧ (c.val - f) % (0 + 1) = 0 ∧ (c.val - f) / (0 + 1) < 256 := e 4
      omega

theorem fourRows_apply (x0 x1 x2 x3 : FVec Ideal S4x4x2x16x384 .f32) (p t j : Fin 4) (z : Fin 2) (i : Fin 16) (c : Fin 384) :
    fourRows x0 x1 x2 x3 (ix6 p t j z i c) = (![x0, x1, x2, x3] : Fin 4 → FVec Ideal S4x4x2x16x384 .f32) j (ix5 p t z i c) := by
  match j with
  | 0 => pointwise [fourRows]
  | 1 => pointwise [fourRows]
  | 2 => pointwise [fourRows]
  | 3 => pointwise [fourRows]

theorem threeKinds_apply (x0 x1 x2 : FVec Ideal S4x4x4x2x16x384 .f32) (y : Fin 3) (p t j : Fin 4) (z : Fin 2) (i : Fin 16) (c : Fin 384) :
    threeKinds x0 x1 x2 (ix7 y p t j z i c) = (![x0, x1, x2] : Fin 3 → FVec Ideal S4x4x4x2x16x384 .f32) y (ix6 p t j z i c) := by
  match y with
  | 0 => pointwise [threeKinds]
  | 1 => pointwise [threeKinds]
  | 2 => pointwise [threeKinds]

theorem tiles_apply (x : FVec Ideal S3x4x4x4x2x16x384 .f32) (y : Fin 3) (p t j : Fin 4) (z : Fin 2) (i : Fin 16) (c : Fin 384) :
    shapeCast S3x4x4x128x384 x shapeCasts_S3x4x4x4x2x16x384_S3x4x4x128x384 (ix5 y p t ⟨32 * j.val + 16 * z.val + i.val, by omega⟩ c)
      = x (ix7 y p t j z i c) := by
  pointwise
  done

theorem three_congr {x0 x1 x2 y0 y1 y2 : FVec Ideal S1x4x4x4x2x16x384 .f32} (h0 : x0 = y0) (h1 : x1 = y1) (h2 : x2 = y2) :
    shapeCast S3x4x4x128x384 (concatenate S3x4x4x4x2x16x384 0 [⟨S1x4x4x4x2x16x384, x0⟩, ⟨S1x4x4x4x2x16x384, x1⟩, ⟨S1x4x4x4x2x16x384, x2⟩]
        concatenates_S1x4x4x4x2x16x384_S1x4x4x4x2x16x384_S1x4x4x4x2x16x384_S3x4x4x4x2x16x384_d0 : FVec Ideal S3x4x4x4x2x16x384 .f32)
        shapeCasts_S3x4x4x4x2x16x384_S3x4x4x128x384
      = shapeCast S3x4x4x128x384 (concatenate S3x4x4x4x2x16x384 0 [⟨S1x4x4x4x2x16x384, y0⟩, ⟨S1x4x4x4x2x16x384, y1⟩, ⟨S1x4x4x4x2x16x384, y2⟩]
        concatenates_S1x4x4x4x2x16x384_S1x4x4x4x2x16x384_S1x4x4x4x2x16x384_S3x4x4x4x2x16x384_d0 : FVec Ideal S3x4x4x4x2x16x384 .f32)
        shapeCasts_S3x4x4x4x2x16x384_S3x4x4x128x384 := by
  rw [h0, h1, h2]

theorem four_congr {x0 x1 x2 x3 y0 y1 y2 y3 : FVec Ideal S4x4x1x2x16x384 .f32} (h0 : x0 = y0) (h1 : x1 = y1) (h2 : x2 = y2) (h3 : x3 = y3) :
    broadcastInDim S1x4x4x4x2x16x384 ![1, 2, 3, 4, 5, 6] bcast_S4x4x4x2x16x384_S1x4x4x4x2x16x384_1_2_3_4_5_6
        (concatenate S4x4x4x2x16x384 2 [⟨S4x4x1x2x16x384, x0⟩, ⟨S4x4x1x2x16x384, x1⟩, ⟨S4x4x1x2x16x384, x2⟩, ⟨S4x4x1x2x16x384, x3⟩]
          concatenates_S4x4x1x2x16x384_S4x4x1x2x16x384_S4x4x1x2x16x384_S4x4x1x2x16x384_S4x4x4x2x16x384_d2 : FVec Ideal S4x4x4x2x16x384 .f32)
      = broadcastInDim S1x4x4x4x2x16x384 ![1, 2, 3, 4, 5, 6] bcast_S4x4x4x2x16x384_S1x4x4x4x2x16x384_1_2_3_4_5_6
        (concatenate S4x4x4x2x16x384 2 [⟨S4x4x1x2x16x384, y0⟩, ⟨S4x4x1x2x16x384, y1⟩, ⟨S4x4x1x2x16x384, y2⟩, ⟨S4x4x1x2x16x384, y3⟩]
          concatenates_S4x4x1x2x16x384_S4x4x1x2x16x384_S4x4x1x2x16x384_S4x4x1x2x16x384_S4x4x4x2x16x384_d2 : FVec Ideal S4x4x4x2x16x384 .f32) := by
  rw [h0, h1, h2, h3]

variable (m : (ℓ : Loc nD τ sig) → Buf (Elt Ideal) ℓ)

attribute [local irreducible] pad extractStridedSlice transpose concatenate shapeCast

theorem bias_entry (c : Dev nD) : (V m c main_v50 : FVec Ideal S3x4x4x128x384 .f32) = biasOf (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append]
  after_reads_simp
  refine three_congr ?_ ?_ ?_
  all_goals
    dsimp only [Matrix.cons_val]
    after_reads_simp
    refine four_congr ?_ ?_ ?_ ?_
    all_goals
      dsimp only [Matrix.cons_val]
      after_reads_simp
      rfl

end Cert.Natten

end
-- ==== Proof.NattenBody.lean ====
module

public import proofs.«01_k».proof.Proof.Gen.KernelIdeal.Frame
public import Idealize.ShloMosaic.Lib.Pointwise

@[expose] public section

set_option maxRecDepth 65536

noncomputable section

namespace Cert.Natten

open Idealize.ShloMosaic Cert.KernelIdeal Cert.KernelIdeal.Gen

variable {F : FTy → Type} [FloatOps F]

/-- The 64 tokens of one grid row inside a block of two batches. -/
abbrev rowRect (n : Fin 64) : Rect S1x4096x128 :=
  Rect.unit (s := S1x4096x128) ![0, 64 * n.val, 0] S1x64x128.size (by intro a; fin_cases a <;> simp <;> omega)

def gridRow (x : Vec F S1x4096x128 .bf16) (n : Fin 64) : FVec F S64x128 .bf16 :=
  shapeCast S64x128 (View.ld x (rowRect n)) shapeCasts_S1x64x128_S64x128

/-- The bias of one tile of query columns, for one of the three kinds of row groups. -/
def biasTile (x : Vec F S3x1x4x128x384 .f32) (y : Fin 3) (t : Fin 4) : FVec F S128x384 .f32 :=
  shapeCast S128x384 (View.ld x (Rect.unit (s := S3x1x4x128x384) ![y.val, 0, t.val, 0, 0] S1x1x1x128x384.size
    (by intro a; fin_cases a <;> simp <;> omega))) shapeCasts_S1x1x1x128x384_S128x384

/-- The lanes of a pair's first head. -/
def firstHead : IVec S16x128 1 := cmpi .slt (iota .tc S16x128 32 [1] iota_S16x128_d1_w32) (broadcast S16x128 64#32)

/-- The 16 query columns of a tile: tile 0 has both edges of the row, the others the columns between. -/
def queryCols (t : Fin 4) (q : FVec F S64x128 .f32) : FVec F S16x128 .f32 :=
  match t with
  | 0 => concatenate S16x128 0 [⟨S8x128, extractStridedSlice S8x128 ![0, 0] q slices_S64x128_o0_0_S8x128⟩,
      ⟨S8x128, extractStridedSlice S8x128 ![56, 0] q slices_S64x128_o56_0_S8x128⟩] concatenates_S8x128_S8x128_S16x128_d0
  | 1 => extractStridedSlice S16x128 ![8, 0] q slices_S64x128_o8_0_S16x128
  | 2 => extractStridedSlice S16x128 ![24, 0] q slices_S64x128_o24_0_S16x128
  | 3 => extractStridedSlice S16x128 ![40, 0] q slices_S64x128_o40_0_S16x128

def oneHead (q : FVec F S16x128 .f32) : FVec F S16x128 .f32 := select firstHead q (broadcast S16x128 (Scalar.ofBits .f32 0x00000000#32))
def otherHead (q : FVec F S16x128 .f32) : FVec F S16x128 .f32 := select firstHead (broadcast S16x128 (Scalar.ofBits .f32 0x00000000#32)) q

/-- The queries of a tile: for each of the four rows, its columns with one head's lanes and then with the other's. -/
def queries (t : Fin 4) (q : Fin 4 → FVec F S64x128 .bf16) : FVec F S128x128 .bf16 :=
  truncf .bf16 (concatenate S128x128 0 [⟨S16x128, oneHead (queryCols t (extf .f32 (q 0) bitsLt_bf16_f32))⟩, ⟨S16x128, otherHead (queryCols t (extf .f32 (q 0) bitsLt_bf16_f32))⟩,
    ⟨S16x128, oneHead (queryCols t (extf .f32 (q 1) bitsLt_bf16_f32))⟩, ⟨S16x128, otherHead (queryCols t (extf .f32 (q 1) bitsLt_bf16_f32))⟩,
    ⟨S16x128, oneHead (queryCols t (extf .f32 (q 2) bitsLt_bf16_f32))⟩, ⟨S16x128, otherHead (queryCols t (extf .f32 (q 2) bitsLt_bf16_f32))⟩,
    ⟨S16x128, oneHead (queryCols t (extf .f32 (q 3) bitsLt_bf16_f32))⟩, ⟨S16x128, otherHead (queryCols t (extf .f32 (q 3) bitsLt_bf16_f32))⟩]
    concatenates_S16x128_S16x128_S16x128_S16x128_S16x128_S16x128_S16x128_S16x128_S128x128_d0) bitsLt_bf16_f32

def leftCols (k : FVec F S64x128 .bf16) : FVec F S16x128 .bf16 := extractStridedSlice S16x128 ![0, 0] k slices_S64x128_o0_0_S16x128
def rightCols (k : FVec F S64x128 .bf16) : FVec F S16x128 .bf16 := extractStridedSlice S16x128 ![48, 0] k slices_S64x128_o48_0_S16x128

/-- Twelve pieces of 32 columns, one below the other. -/
def stacked (p : Fin 12 → FVec F S32x128 .bf16) : FVec F S384x128 .bf16 :=
  concatenate S384x128 0 [⟨S32x128, p 0⟩, ⟨S32x128, p 1⟩, ⟨S32x128, p 2⟩, ⟨S32x128, p 3⟩, ⟨S32x128, p 4⟩, ⟨S32x128, p 5⟩, ⟨S32x128, p 6⟩,
    ⟨S32x128, p 7⟩, ⟨S32x128, p 8⟩, ⟨S32x128, p 9⟩, ⟨S32x128, p 10⟩, ⟨S32x128, p 11⟩]
    concatenates_S32x128_S32x128_S32x128_S32x128_S32x128_S32x128_S32x128_S32x128_S32x128_S32x128_S32x128_S32x128_S384x128_d0

/-- Twelve pieces of 16 columns on the left and 16 on the right, one pair below the other. -/
def paired (l r : Fin 12 → FVec F S16x128 .bf16) : FVec F S384x128 .bf16 :=
  concatenate S384x128 0 [⟨S16x128, l 0⟩, ⟨S16x128, r 0⟩, ⟨S16x128, l 1⟩, ⟨S16x128, r 1⟩,
      ⟨S16x128, l 2⟩, ⟨S16x128, r 2⟩, ⟨S16x128, l 3⟩, ⟨S16x128, r 3⟩,
      ⟨S16x128, l 4⟩, ⟨S16x128, r 4⟩, ⟨S16x128, l 5⟩, ⟨S16x128, r 5⟩,
      ⟨S16x128, l 6⟩, ⟨S16x128, r 6⟩, ⟨S16x128, l 7⟩, ⟨S16x128, r 7⟩,
      ⟨S16x128, l 8⟩, ⟨S16x128, r 8⟩, ⟨S16x128, l 9⟩, ⟨S16x128, r 9⟩,
      ⟨S16x128, l 10⟩, ⟨S16x128, r 10⟩, ⟨S16x128, l 11⟩, ⟨S16x128, r 11⟩]
      concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S384x128_d0

/-- The keys (or values) a tile reads: twelve grid rows, 32 columns of each. -/
def band (t : Fin 4) (k : Fin 12 → FVec F S64x128 .bf16) : FVec F S384x128 .bf16 :=
  match t with
  | 0 => paired (fun u => leftCols (k u)) fun u => rightCols (k u)
  | 1 => stacked fun u => extractStridedSlice S32x128 ![0, 0] (k u) slices_S64x128_o0_0_S32x128
  | 2 => stacked fun u => extractStridedSlice S32x128 ![16, 0] (k u) slices_S64x128_o16_0_S32x128
  | 3 => stacked fun u => extractStridedSlice S32x128 ![32, 0] (k u) slices_S64x128_o32_0_S32x128

/-- The scores of a tile, its bias added. -/
def scores (t : Fin 4) (q : Fin 4 → FVec F S64x128 .bf16) (k : Fin 12 → FVec F S64x128 .bf16) (b : FVec F S128x384 .f32) : FVec F S128x384 .f32 :=
  addf (matmul dot_S128x128_S384x128_S128x384_1_1_0_0_n_n none (queries t q) (band t k) (constant S128x384 .f32 0x00000000#32)) b

/-- The weights before they are divided by their sum. -/
def weights (s : FVec F S128x384 .f32) : FVec F S128x384 .f32 :=
  exp (subf s (broadcastTo S128x384 (shapeCast S128x1 (multiReduction .maximumf [1] S128 s 0xFF800000#32 reduces_S128x384_S128 (.inl rfl) rfl) shapeCasts_S128_S128x1) broadcasts_S128x1_S128x384))

/-- The tile's result: the weighted values, divided by the sum of the weights. -/
def mixed (t : Fin 4) (s : FVec F S128x384 .f32) (v : Fin 12 → FVec F S64x128 .bf16) : FVec F S128x128 .f32 :=
  divf (matmul dot_S128x384_S384x128_S128x128_1_0_0_1_n_n none (truncf .bf16 (weights s) bitsLt_bf16_f32) (band t v) (constant S128x128 .f32 0x00000000#32))
    (broadcastTo S128x128 (shapeCast S128x1 (multiReduction .add [1] S128 (weights s) 0x00000000#32 reduces_S128x384_S128 (.inl rfl) rfl) shapeCasts_S128_S128x1) broadcasts_S128x1_S128x128)

/-- A tile's result for the group's row `j`, each lane from its own head. -/
def ownHead (j : Fin 4) (o : FVec F S128x128 .f32) : FVec F S16x128 .f32 :=
  match j with
  | 0 => select firstHead (extractStridedSlice S16x128 ![0, 0] o slices_S128x128_o0_0_S16x128) (extractStridedSlice S16x128 ![16, 0] o slices_S128x128_o16_0_S16x128)
  | 1 => select firstHead (extractStridedSlice S16x128 ![32, 0] o slices_S128x128_o32_0_S16x128) (extractStridedSlice S16x128 ![48, 0] o slices_S128x128_o48_0_S16x128)
  | 2 => select firstHead (extractStridedSlice S16x128 ![64, 0] o slices_S128x128_o64_0_S16x128) (extractStridedSlice S16x128 ![80, 0] o slices_S128x128_o80_0_S16x128)
  | 3 => select firstHead (extractStridedSlice S16x128 ![96, 0] o slices_S128x128_o96_0_S16x128) (extractStridedSlice S16x128 ![112, 0] o slices_S128x128_o112_0_S16x128)

/-- The tiles' columns put back in order. -/
def wholeRow (o : Fin 4 → FVec F S16x128 .f32) : FVec F S1x64x128 .bf16 :=
  shapeCast S1x64x128 (truncf .bf16 (concatenate S64x128 0 [⟨S8x128, extractStridedSlice S8x128 ![0, 0] (o 0) slices_S16x128_o0_0_S8x128⟩,
    ⟨S16x128, o 1⟩, ⟨S16x128, o 2⟩, ⟨S16x128, o 3⟩, ⟨S8x128, extractStridedSlice S8x128 ![8, 0] (o 0) slices_S16x128_o8_0_S8x128⟩]
    concatenates_S8x128_S16x128_S16x128_S16x128_S8x128_S64x128_d0) bitsLt_bf16_f32) shapeCasts_S64x128_S1x64x128

/-- The first of the twelve grid rows whose keys a group of four query rows reads. -/
def keyBase (g : Fin 16) : Nat := 32 * (g.val / 8) + min (4 * (g.val % 8) - 4) 20

theorem keyBase_le (g : Fin 16) (u : Fin 12) : keyBase g + u.val < 64 := by
  unfold keyBase; omega

/-- The kind of a group: the top one, the bottom one, or one between. -/
def kind (g : Fin 16) : Fin 3 := if g.val % 8 = 0 then 0 else if g.val % 8 = 7 then 2 else 1

/-- What the kernel stores for one grid row: group `g`, its row `j`. -/
def rowOut (x0 x1 x2 : Vec F S1x4096x128 .bf16) (x3 : Vec F S3x1x4x128x384 .f32) (g : Fin 16) (j : Fin 4) : FVec F S1x64x128 .bf16 :=
  wholeRow fun t => ownHead j (mixed t
    (scores t (fun i => gridRow x0 ⟨4 * g.val + i.val, by omega⟩) (fun u => gridRow x1 ⟨keyBase g + u.val, keyBase_le g u⟩) (biasTile x3 (kind g) t))
    (fun u => gridRow x2 ⟨keyBase g + u.val, keyBase_le g u⟩))

/-- The rows in the order in which they are stored, the last first. -/
def order : List (Fin 16 × Fin 4) :=
  [14, 13, 12, 11, 10, 9, 15, 8, 6, 5, 4, 3, 2, 1, 7, 0].flatMap fun g => [(g, 3), (g, 2), (g, 1), (g, 0)]

set_option maxHeartbeats 8000000 in
/-- The block the body leaves is these rows. -/
theorem out_rows (x0 x1 x2 : Vec F S1x4096x128 .bf16) (x3 : Vec F S3x1x4x128x384 .f32) :
    out0_4 x0 x1 x2 x3 = View.canon (order.map fun p => ⟨rowRect ⟨4 * p.1.val + p.2.val, by omega⟩, rowOut x0 x1 x2 x3 p.1 p.2⟩) := rfl

end Cert.Natten

end
-- ==== Proof.NattenTile.lean ====
module

public import proofs.«01_k».proof.Proof.NattenBody
public import proofs.«01_k».proof.Proof.NattenSpec
public import proofs.«01_k».proof.Proof.Consts

@[expose] public section

set_option maxRecDepth 65536

noncomputable section

/-! One tile of the kernel's body, read entry by entry. -/

namespace Cert.Natten

open Idealize.ShloMosaic Cert.KernelIdeal Cert.KernelIdeal.Gen

/-- The grid column of a tile's query column. -/
def queryCol (t : Fin 4) (i : Fin 16) : Fin 64 :=
  if t = 0 then (if h : i.val < 8 then ⟨i.val, by omega⟩ else ⟨48 + i.val, by omega⟩) else ⟨16 * t.val - 8 + i.val, by omega⟩

/-- The grid column of a tile's key column. -/
def keyCol (t : Fin 4) (i : Fin 32) : Fin 64 :=
  if t = 0 then (if h : i.val < 16 then ⟨i.val, by omega⟩ else ⟨32 + i.val, by omega⟩) else ⟨16 * (t.val - 1) + i.val, by omega⟩

theorem firstHead_apply (i : Fin 16) (d : Fin 128) : firstHead (ix2 i d) = BitVec.ofBool (decide (d.val < 64)) := by
  pointwise [firstHead]
  revert d; decide +kernel

theorem queryCols_apply (t : Fin 4) (q : FVec Ideal S64x128 .f32) (i : Fin 16) (d : Fin 128) : queryCols t q (ix2 i d) = q (ix2 (queryCol t i) d) := by
  fin_cases t <;> pointwise [queryCols, queryCol]
  · by_cases h : i.val < 8
    · simp [h]
    · simp only [h, dif_neg, not_false_eq_true, if_pos]
      congr 2; refine Fin.ext ?_; dsimp only; omega
  all_goals rfl

/-- Row `w k + i` of pieces of `w` rows laid one below the other is row `i` of piece `k`. -/
theorem rows_apply {α : Type} {w n N T : ℕ} (f : Fin N → (⟨2, ![w, n]⟩ : Shape).Idx → α)
    (h : Shape.Concatenates ((List.ofFn fun k : Fin N => (⟨⟨2, ![w, n]⟩, f k⟩ : (s : Shape) × (s.Idx → α))).map (·.1)) ⟨2, ![T, n]⟩ 0)
    (r : Fin T) (k : Fin N) (i : Fin w) (d : Fin n) (hr : r.val = w * k.val + i.val) :
    concatenate ⟨2, ![T, n]⟩ 0 (List.ofFn fun k : Fin N => (⟨⟨2, ![w, n]⟩, f k⟩ : (s : Shape) × (s.Idx → α))) h (ix2 r d) = f k (ix2 i d) := by
  have hw : 0 < w := Fin.pos i
  refine concatenate_ofFn_apply _ f h rfl w rfl _ k ?_ _ ?_ fun b hb => ?_
  · show r.val / w = k.val
    rw [hr, Nat.mul_add_div hw, Nat.div_eq_of_lt i.isLt, Nat.add_zero]
  · show i.val = r.val % w
    rw [hr, Nat.mul_add_mod, Nat.mod_eq_of_lt i.isLt]
  · match b with
    | ⟨0, _⟩ => exact absurd rfl hb
    | ⟨1, _⟩ => rfl

theorem stacked_apply (p : Fin 12 → FVec Ideal S32x128 .bf16) (u : Fin 12) (i : Fin 32) (d : Fin 128) :
    stacked p (ix2 ⟨32 * u.val + i.val, by omega⟩ d) = p u (ix2 i d) :=
  rows_apply p _ _ u i d rfl

theorem paired_apply (l r : Fin 12 → FVec Ideal S16x128 .bf16) (n : Fin 24) (i : Fin 16) (d : Fin 128) (s : Fin 384) (hs : s.val = 16 * n.val + i.val) :
    paired l r (ix2 s d) = (if n.val % 2 = 0 then l ⟨n.val / 2, by omega⟩ else r ⟨n.val / 2, by omega⟩) (ix2 i d) := by
  have hr := rows_apply (T := 384) (fun n : Fin 24 => if n.val % 2 = 0 then l ⟨n.val / 2, by omega⟩ else r ⟨n.val / 2, by omega⟩)
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S384x128_d0
    s n i d hs
  exact (show paired l r _ = _ from hr)

theorem band_between (o : Fin 33) (k : Fin 12 → FVec Ideal S64x128 .bf16) (hs : S64x128.Slices ![o.val, 0] S32x128) (u : Fin 12) (i : Fin 32) (d : Fin 128) :
    stacked (fun u => extractStridedSlice S32x128 ![o.val, 0] (k u) hs) (ix2 ⟨32 * u.val + i.val, by omega⟩ d) = k u (ix2 ⟨o.val + i.val, by omega⟩ d) := by
  rw [stacked_apply]
  pointwise

/-- A tile's band of keys, row by row of the grid. -/
theorem band_apply (t : Fin 4) (k : Fin 12 → FVec Ideal S64x128 .bf16) (u : Fin 12) (i : Fin 32) (d : Fin 128) :
    band t k (ix2 ⟨32 * u.val + i.val, by omega⟩ d) = k u (ix2 (keyCol t i) d) := by
  match t with
  | 0 =>
    by_cases h : i.val < 16
    · have h2 : (⟨2 * u.val / 2, by omega⟩ : Fin 12) = u := Fin.ext (by dsimp only; omega)
      have hk : keyCol 0 i = ⟨i.val, by omega⟩ := by simp [keyCol, h]
      refine (paired_apply (fun u => leftCols (k u)) (fun u => rightCols (k u)) ⟨2 * u.val, by omega⟩ ⟨i.val, h⟩ d _ (by dsimp only; omega)).trans ?_
      rw [if_pos (by dsimp only; omega), h2, hk]
      pointwise [leftCols]
    · have h2 : (⟨(2 * u.val + 1) / 2, by omega⟩ : Fin 12) = u := Fin.ext (by dsimp only; omega)
      have hk : keyCol 0 i = ⟨48 + (i.val - 16), by omega⟩ := by
        simp only [keyCol, h, dif_neg, not_false_eq_true, if_pos]
        exact Fin.ext (by dsimp only; omega)
      refine (paired_apply (fun u => leftCols (k u)) (fun u => rightCols (k u)) ⟨2 * u.val + 1, by omega⟩ ⟨i.val - 16, by omega⟩ d _ (by dsimp only; omega)).trans ?_
      rw [if_neg (by dsimp only; omega), h2, hk]
      pointwise [rightCols]
  | 1 => exact band_between 0 k _ u i d
  | 2 => exact band_between 16 k _ u i d
  | 3 => exact band_between 32 k _ u i d

/-- The other head's lanes are put out. -/
theorem oneHead_apply (q : FVec Ideal S16x128 .f32) (i : Fin 16) (d : Fin 128) : oneHead q (ix2 i d) = if d.val / 64 = 0 then q (ix2 i d) else 0 := by
  pointwise [oneHead]
  rw [firstHead_apply]
  by_cases h : d.val < 64
  · rw [if_pos (by omega), decide_eq_true h]; rfl
  · rw [if_neg (by omega), decide_eq_false h]; rfl

theorem otherHead_apply (q : FVec Ideal S16x128 .f32) (i : Fin 16) (d : Fin 128) : otherHead q (ix2 i d) = if d.val / 64 = 1 then q (ix2 i d) else 0 := by
  pointwise [otherHead]
  rw [firstHead_apply]
  by_cases h : d.val < 64
  · rw [if_neg (by omega), decide_eq_true h]; rfl
  · rw [if_pos (by omega), decide_eq_false h]; rfl

theorem queries_apply (t : Fin 4) (q : Fin 4 → FVec Ideal S64x128 .bf16) (j : Fin 4) (z : Fin 2) (i : Fin 16) (d : Fin 128) :
    queries t q (ix2 ⟨32 * j.val + 16 * z.val + i.val, by omega⟩ d) = if d.val / 64 = z.val then q j (ix2 (queryCol t i) d) else 0 := by
  have hj : (⟨(2 * j.val + z.val) / 2, by omega⟩ : Fin 4) = j := Fin.ext (by dsimp only; omega)
  have hr := rows_apply (T := 128) (fun n : Fin 8 => if n.val % 2 = 0 then oneHead (queryCols t (extf .f32 (q ⟨n.val / 2, by omega⟩) bitsLt_bf16_f32))
    else otherHead (queryCols t (extf .f32 (q ⟨n.val / 2, by omega⟩) bitsLt_bf16_f32)))
    concatenates_S16x128_S16x128_S16x128_S16x128_S16x128_S16x128_S16x128_S16x128_S128x128_d0 ⟨32 * j.val + 16 * z.val + i.val, by omega⟩ ⟨2 * j.val + z.val, by omega⟩ i d (by dsimp only; omega)
  refine (show queries t q _ = _ from hr).trans ?_
  dsimp only
  rw [hj]
  by_cases hz : z.val = 0
  · rw [if_pos (by omega), oneHead_apply, queryCols_apply, hz]; rfl
  · rw [if_neg (by omega), otherHead_apply, queryCols_apply, show z.val = 1 by omega]; rfl

/-- One head's lanes of a product over both heads' lanes. -/
theorem head_sum (z : Fin 2) (f g : Fin 128 → EReal) :
    ∑ e : Fin 128, (if e.val / 64 = z.val then f e else 0) * g e = ∑ e : Fin 64, f ⟨z.val * 64 + e.val, by omega⟩ * g ⟨z.val * 64 + e.val, by omega⟩ := by
  rw [show (∑ e : Fin 128, (if e.val / 64 = z.val then f e else 0) * g e) = ∑ e : Fin (64 + 64), (if e.val / 64 = z.val then f e else 0) * g e from rfl, Fin.sum_univ_add]
  match z with
  | 0 =>
    rw [Finset.sum_eq_zero (s := Finset.univ) (f := fun e : Fin 64 => (if (Fin.natAdd 64 e).val / 64 = (0 : Fin 2).val then f (Fin.natAdd 64 e) else 0) * g (Fin.natAdd 64 e))
      fun e _ => by rw [if_neg (by simp), zero_mul], add_zero]
    refine Finset.sum_congr rfl fun e _ => ?_
    rw [if_pos (by simp [Nat.div_eq_of_lt e.isLt])]
    congr 2 <;> exact Fin.ext (by simp)
  | 1 =>
    rw [Finset.sum_eq_zero (s := Finset.univ) (f := fun e : Fin 64 => (if (Fin.castAdd 64 e).val / 64 = (1 : Fin 2).val then f (Fin.castAdd 64 e) else 0) * g (Fin.castAdd 64 e))
      fun e _ => by rw [if_neg (by simp [Nat.div_eq_of_lt e.isLt]), zero_mul], zero_add]
    refine Finset.sum_congr rfl fun e _ => ?_
    rw [if_pos (by simp)]
    rfl

/-- A tile's scores: of the group's row `j`, head `z` and the tile's query `i`, against key row `u` and the tile's key `c`. -/
theorem scores_apply (t : Fin 4) (q : Fin 4 → FVec Ideal S64x128 .bf16) (k : Fin 12 → FVec Ideal S64x128 .bf16) (b : FVec Ideal S128x384 .f32)
    (j : Fin 4) (z : Fin 2) (i : Fin 16) (u : Fin 12) (c : Fin 32) :
    scores t q k b (ix2 ⟨32 * j.val + 16 * z.val + i.val, by omega⟩ ⟨32 * u.val + c.val, by omega⟩)
      = (∑ e : Fin 64, q j (ix2 (queryCol t i) ⟨z.val * 64 + e.val, by omega⟩) * k u (ix2 (keyCol t c) ⟨z.val * 64 + e.val, by omega⟩))
        + b (ix2 ⟨32 * j.val + 16 * z.val + i.val, by omega⟩ ⟨32 * u.val + c.val, by omega⟩) := by
  pointwise [scores]
  simp only [queries_apply, band_apply]
  rw [head_sum z (fun e => q j (ix2 (queryCol t i) e)) (fun e => k u (ix2 (keyCol t c) e))]

theorem weights_apply (s : FVec Ideal S128x384 .f32) (r : Fin 128) (c : Fin 384) :
    weights s (ix2 r c) = Ideal.exp (s (ix2 r c) - top fun l => s (ix2 r l)) := by
  pointwise [weights]
  rw [Consts.of_neg_inf]
  rfl

theorem mixed_apply (t : Fin 4) (s : FVec Ideal S128x384 .f32) (v : Fin 12 → FVec Ideal S64x128 .bf16) (r : Fin 128) (d : Fin 128) :
    mixed t s v (ix2 r d) = attendedLate (fun c => s (ix2 r c)) fun c => band t v (ix2 c d) := by
  pointwise [mixed]
  simp only [weights_apply]
  rfl

/-- A lane's own head. -/
theorem select_head (o : FVec Ideal S128x128 .f32) (r : ℕ) (hr : r + 32 ≤ 128) (i : Fin 16) (d : Fin 128) :
    Scalar.select (BitVec.ofBool (decide (d.val < 64))) (o (ix2 ⟨r + i.val, by omega⟩ d)) (o (ix2 ⟨r + 16 + i.val, by omega⟩ d))
      = o (ix2 ⟨r + 16 * (d.val / 64) + i.val, by omega⟩ d) := by
  by_cases h : d.val < 64
  · rw [decide_eq_true h]
    refine congrArg (fun z => o (ix2 z d)) (Fin.ext ?_)
    dsimp only; omega
  · rw [decide_eq_false h]
    refine congrArg (fun z => o (ix2 z d)) (Fin.ext ?_)
    dsimp only; omega

theorem ownHead_apply (j : Fin 4) (o : FVec Ideal S128x128 .f32) (i : Fin 16) (d : Fin 128) :
    ownHead j o (ix2 i d) = o (ix2 ⟨32 * j.val + 16 * (d.val / 64) + i.val, by omega⟩ d) := by
  match j with
  | 0 =>
    pointwise [ownHead]
    rw [firstHead_apply]
    have h := select_head o 0 (by omega) i d
    simp only [Nat.zero_add] at h
    exact h
  | 1 =>
    pointwise [ownHead]
    rw [firstHead_apply]
    exact select_head o 32 (by omega) i d
  | 2 =>
    pointwise [ownHead]
    rw [firstHead_apply]
    exact select_head o 64 (by omega) i d
  | 3 =>
    pointwise [ownHead]
    rw [firstHead_apply]
    exact select_head o 96 (by omega) i d

theorem wholeRow_apply (o : Fin 4 → FVec Ideal S16x128 .f32) (t : Fin 4) (i : Fin 16) (d : Fin 128) :
    wholeRow o (ix3 0 (queryCol t i) d) = o t (ix2 i d) := by
  pointwise [wholeRow]
  match t with
  | 0 =>
    by_cases h : i.val < 8
    · have hc : (queryCol 0 i).val = i.val := by simp [queryCol, h]
      rw [dif_pos (by omega)]
      exact congrArg (fun z => o 0 (ix2 z d)) (Fin.ext hc)
    · have hc : (queryCol 0 i).val = 48 + i.val := by simp [queryCol, h]
      rw [dif_neg (by omega), dif_neg (by omega), dif_neg (by omega), dif_neg (by omega)]
      exact congrArg (fun z => o 0 (ix2 z d)) (Fin.ext (by dsimp only; omega))
  | 1 =>
    have hc : (queryCol 1 i).val = 8 + i.val := rfl
    rw [dif_neg (by omega), dif_pos (by omega)]
    exact congrArg (fun z => o 1 (ix2 z d)) (Fin.ext (by dsimp only; omega))
  | 2 =>
    have hc : (queryCol 2 i).val = 24 + i.val := rfl
    rw [dif_neg (by omega), dif_neg (by omega), dif_pos (by omega)]
    exact congrArg (fun z => o 2 (ix2 z d)) (Fin.ext (by dsimp only; omega))
  | 3 =>
    have hc : (queryCol 3 i).val = 40 + i.val := rfl
    rw [dif_neg (by omega), dif_neg (by omega), dif_neg (by omega), dif_pos (by omega)]
    exact congrArg (fun z => o 3 (ix2 z d)) (Fin.ext (by dsimp only; omega))

theorem drop_first (y : FVec Ideal S1x64x128 .bf16) (c : Fin 64) (d : Fin 128) : shapeCast S64x128 y shapeCasts_S1x64x128_S64x128 (ix2 c d) = y (ix3 0 c d) := by
  pointwise

theorem drop_three (y : FVec Ideal S1x1x1x128x384 .f32) (c : Fin 128) (d : Fin 384) :
    shapeCast S128x384 y shapeCasts_S1x1x1x128x384_S128x384 (ix2 c d) = y (ix5 0 0 0 c d) := by
  pointwise

theorem gridRow_apply (x : Vec Ideal S1x4096x128 .bf16) (n : Fin 64) (c : Fin 64) (d : Fin 128) :
    gridRow x n (ix2 c d) = x (ix3 0 ⟨64 * n.val + c.val, by omega⟩ d) := by
  refine (drop_first _ c d).trans (congrArg x ?_)
  funext a
  refine Fin.ext ?_
  match a with
  | ⟨0, _⟩ => rfl
  | ⟨1, _⟩ => show 64 * n.val + 1 * c.val = 64 * n.val + c.val; omega
  | ⟨2, _⟩ => show 0 + 1 * d.val = d.val; omega

theorem biasTile_apply (x : Vec Ideal S3x1x4x128x384 .f32) (y : Fin 3) (t : Fin 4) (r : Fin 128) (c : Fin 384) :
    biasTile x y t (ix2 r c) = x (ix5 y 0 t r c) := by
  refine (drop_three _ r c).trans (congrArg x ?_)
  funext a
  refine Fin.ext ?_
  match a with
  | ⟨0, _⟩ => show y.val + 1 * 0 = y.val; omega
  | ⟨1, _⟩ => rfl
  | ⟨2, _⟩ => show t.val + 1 * 0 = t.val; omega
  | ⟨3, _⟩ => show 0 + 1 * r.val = r.val; omega
  | ⟨4, _⟩ => show 0 + 1 * c.val = c.val; omega

/-- What a group stores for its row `j`: over the tile's 384 keys, attention with the division after the sum. -/
theorem rowOut_apply (x0 x1 x2 : Vec Ideal S1x4096x128 .bf16) (x3 : Vec Ideal S3x1x4x128x384 .f32) (g : Fin 16) (j : Fin 4) (t : Fin 4) (i : Fin 16) (d : Fin 128) :
    rowOut x0 x1 x2 x3 g j (ix3 0 (queryCol t i) d) = attendedLate
      (fun c : Fin 384 => (∑ e : Fin 64, x0 (ix3 0 ⟨64 * (4 * g.val + j.val) + (queryCol t i).val, by omega⟩ ⟨d.val / 64 * 64 + e.val, by omega⟩)
          * x1 (ix3 0 ⟨64 * (keyBase g + c.val / 32) + (keyCol t ⟨c.val % 32, by omega⟩).val, by have := keyBase_le g ⟨c.val / 32, by omega⟩; dsimp only at this; omega⟩ ⟨d.val / 64 * 64 + e.val, by omega⟩))
        + x3 (ix5 (kind g) 0 t ⟨32 * j.val + 16 * (d.val / 64) + i.val, by omega⟩ c))
      (fun c : Fin 384 => x2 (ix3 0 ⟨64 * (keyBase g + c.val / 32) + (keyCol t ⟨c.val % 32, by omega⟩).val, by have := keyBase_le g ⟨c.val / 32, by omega⟩; dsimp only at this; omega⟩ d)) := by
  have hc : ∀ c : Fin 384, (⟨32 * (c.val / 32) + c.val % 32, by omega⟩ : Fin 384) = c := fun c => Fin.ext (by dsimp only; omega)
  unfold rowOut
  rw [wholeRow_apply, ownHead_apply, mixed_apply]
  congr 1
  · funext c
    have hs := scores_apply t (fun i => gridRow x0 ⟨4 * g.val + i.val, by omega⟩) (fun u => gridRow x1 ⟨keyBase g + u.val, keyBase_le g u⟩) (biasTile x3 (kind g) t) j
      ⟨d.val / 64, by omega⟩ i ⟨c.val / 32, by omega⟩ ⟨c.val % 32, by omega⟩
    simp only [hc, gridRow_apply, biasTile_apply] at hs
    exact hs
  · funext c
    have hb := band_apply t (fun u => gridRow x2 ⟨keyBase g + u.val, keyBase_le g u⟩) ⟨c.val / 32, by omega⟩ ⟨c.val % 32, by omega⟩ d
    simp only [hc, gridRow_apply] at hb
    exact hb

end Cert.Natten

end
-- ==== Proof.NattenHot.lean ====
module

public import proofs.«01_k».proof.Proof.NattenTile

@[expose] public section

set_option maxRecDepth 65536
set_option maxHeartbeats 0

noncomputable section

/-! The one-hot table, word by word. -/

namespace Cert.Natten

open Idealize.ShloMosaic Cert.KernelIdeal Cert.KernelIdeal.Gen

/-- Between near columns the table holds one at their distance, and zero elsewhere. -/
abbrev HotAt (t : Fin 4) (i : Fin 16) (k : Fin 32) (c : Fin 31) : Prop :=
  lit0t (((c.val * 4 + t.val) * 16 + i.val) * 32 + k.val) = if c.val = min ((keyCol t k).val + 15 - (queryCol t i).val) 30 then 0x3F800000#32 else 0#32

theorem hot_first : ∀ (i : Fin 16) (k : Fin 32), NearCol (queryCol 0 i).val (keyCol 0 k).val → ∀ c, HotAt 0 i k c := by
  decide +kernel

theorem hot_second : ∀ (i : Fin 16) (k : Fin 32), NearCol (queryCol 1 i).val (keyCol 1 k).val → ∀ c, HotAt 1 i k c := by
  decide +kernel

theorem hot_third : ∀ (i : Fin 16) (k : Fin 32), NearCol (queryCol 2 i).val (keyCol 2 k).val → ∀ c, HotAt 2 i k c := by
  decide +kernel

theorem hot_fourth : ∀ (i : Fin 16) (k : Fin 32), NearCol (queryCol 3 i).val (keyCol 3 k).val → ∀ c, HotAt 3 i k c := by
  decide +kernel

theorem hot_word (t : Fin 4) (i : Fin 16) (k : Fin 32) (h : NearCol (queryCol t i).val (keyCol t k).val) (c : Fin 31) : HotAt t i k c :=
  match t with
  | 0 => hot_first i k h c
  | 1 => hot_second i k h c
  | 2 => hot_third i k h c
  | 3 => hot_fourth i k h c

end Cert.Natten

end
-- ==== Proof.NattenTable.lean ====
module

public import proofs.«01_k».proof.Proof.NattenBias
public import proofs.«01_k».proof.Proof.NattenHot

@[expose] public section

set_option maxRecDepth 65536

noncomputable section

/-! The bias the tiles read is the layer's bias between their query and key tokens, and minus infinity where these are not near. -/

namespace Cert.Natten

open Idealize.ShloMosaic Cert.KernelIdeal Cert.KernelIdeal.Gen

theorem of_one : Ideal.ofBits .f32 0x3F800000#32 = 1 := by
  have h : Ideal.ofBits .f32 0x3F800000#32 = ((1 : ℝ) : EReal) := by
    simp [Ideal.ofBits, Ideal.ieee, -EReal.coe_mul]; norm_num
  exact h

theorem of_zero : Ideal.ofBits .f32 0#32 = 0 := by
  simp [Ideal.ofBits, Ideal.ieee]

/-- The mask, entry by entry: zero between near columns, minus infinity elsewhere. -/
theorem wall_word : ∀ (t : Fin 4) (i : Fin 16) (k : Fin 32),
    lit1t ((t.val * 16 + i.val) * 32 + k.val) = if NearCol (queryCol t i).val (keyCol t k).val then 0#32 else 0xFF800000#32 := by
  decide +kernel

theorem hot_apply (c : Fin 31) (t : Fin 4) (i : Fin 16) (k : Fin 32) (h : NearCol (queryCol t i).val (keyCol t k).val) :
    hot (ix4 c t i k) = if c = ⟨min ((keyCol t k).val + 15 - (queryCol t i).val) 30, by omega⟩ then 1 else 0 := by
  have e : (S31x4x16x32.rowMajor (ix4 c t i k)).val = ((c.val * 4 + t.val) * 16 + i.val) * 32 + k.val := Shape.rowMajor_val_four _
  show Ideal.ofBits .f32 (lit0t (S31x4x16x32.rowMajor (ix4 c t i k)).val) = _
  rw [e, show lit0t _ = _ from hot_word t i k h c]
  by_cases hc : c.val = min ((keyCol t k).val + 15 - (queryCol t i).val) 30
  · rw [if_pos hc, if_pos (Fin.ext hc)]
    exact of_one
  · rw [if_neg hc, if_neg fun e => hc (congrArg Fin.val e)]
    exact of_zero

theorem wall_apply (t : Fin 4) (i : Fin 16) (k : Fin 32) :
    wall (ix5 0 t i 0 k) = if NearCol (queryCol t i).val (keyCol t k).val then 0 else ⊥ := by
  have e : (S1x4x16x1x32.rowMajor (ix5 0 t i 0 k)).val = (t.val * 16 + i.val) * 32 + k.val :=
    (Shape.rowMajor_val_five _).trans (by show ((((0 * 4 + t.val) * 16 + i.val) * 1 + 0) * 32 + k.val) = _; omega)
  show Ideal.ofBits .f32 (lit1t (S1x4x16x1x32.rowMajor (ix5 0 t i 0 k)).val) = _
  rw [e, wall_word t i k]
  split_ifs
  · exact of_zero
  · exact Cert.Consts.of_neg_inf

/-- The strips' bias between near columns is the layer's; elsewhere it is minus infinity. -/
theorem strips_near (a : FVec Ideal S1x8x15x31 .f32) (h : Fin 8) (t : Fin 4) (i : Fin 16) (r : Fin 15) (k : Fin 32) :
    strips a (ix5 h t i r k) = if NearCol (queryCol t i).val (keyCol t k).val
      then a (ix4 0 h r ⟨min ((keyCol t k).val + 15 - (queryCol t i).val) 30, by omega⟩) else ⊥ := by
  rw [strips_apply, wall_apply]
  split_ifs with hn
  · simp only [hot_apply _ t i k hn, ite_mul, one_mul, zero_mul, Finset.sum_ite_eq', Finset.mem_univ, if_true, add_zero]
  · exact EReal.add_bot _

/-- A piece over the regrouped strips: eight rows of the bias from row `r` on, at eight rows of keys from the `f`-th on. -/
theorem piece_rows (r f g : ℕ) (hs : S4x4x2x16x480.Slices ![0, 0, 0, 0, 32 * r] S4x4x2x16x256)
    (hp : S4x4x2x16x256.Pads ![0, 0, 0, 0, 32 * f] ![0, 0, 0, 0, g] ![0, 0, 0, 0, 0] S4x4x2x16x384) (x : FVec Ideal S8x4x16x15x32 .f32)
    (hr : r ≤ 7) (p t : Fin 4) (z : Fin 2) (i : Fin 16) (c : Fin 384) :
    piece (32 * r) (32 * f) g hs hp (regroup x) (ix5 p t z i c)
      = if f ≤ c.val / 32 ∧ c.val / 32 < f + 8 then x (ix5 ⟨2 * p.val + z.val, by omega⟩ t i ⟨min (r + (c.val / 32 - f)) 14, by omega⟩ ⟨c.val % 32, by omega⟩) else ⊥ := by
  rw [piece_apply _ _ _ _ _ _ (by omega)]
  by_cases h : f ≤ c.val / 32 ∧ c.val / 32 < f + 8
  · rw [if_pos h, dif_pos (by omega), ← regroup_apply x]
    refine congrArg (fun q => regroup x (ix5 p t z i q)) (Fin.ext ?_)
    show 32 * r + (c.val - 32 * f) = 32 * min (r + (c.val / 32 - f)) 14 + c.val % 32
    omega
  · rw [if_neg h, dif_neg (by omega)]

/-- The first row of keys near the `j`-th row of queries of a tile, among the twelve rows of keys the tile reads. -/
def firstNear (y : Fin 3) (j : Fin 4) : ℕ := ![0, j.val, 4] y

theorem biasOf_apply (a : FVec Ideal S1x8x15x31 .f32) (y : Fin 3) (p t j : Fin 4) (z : Fin 2) (i : Fin 16) (c : Fin 384) :
    biasOf a (ix5 y p t ⟨32 * j.val + 16 * z.val + i.val, by omega⟩ c)
      = if firstNear y j ≤ c.val / 32 ∧ c.val / 32 < firstNear y j + 8
        then strips a (ix5 ⟨2 * p.val + z.val, by omega⟩ t i ⟨min (c.val / 32 + 7 - (4 * y.val + j.val)) 14, by omega⟩ ⟨c.val % 32, by omega⟩) else ⊥ := by
  have step : ∀ (y : Fin 3) (j : Fin 4) (r f g : ℕ) hs hp, r ≤ 7 → f = firstNear y j → r + (4 * y.val + j.val) = f + 7 →
      piece (32 * r) (32 * f) g hs hp (regroup (strips a)) (ix5 p t z i c)
        = if firstNear y j ≤ c.val / 32 ∧ c.val / 32 < firstNear y j + 8
          then strips a (ix5 ⟨2 * p.val + z.val, by omega⟩ t i ⟨min (c.val / 32 + 7 - (4 * y.val + j.val)) 14, by omega⟩ ⟨c.val % 32, by omega⟩) else ⊥ := by
    intro y j r f g hs hp hr hf e
    rw [piece_rows _ _ _ _ _ _ hr, hf]
    by_cases h : firstNear y j ≤ c.val / 32 ∧ c.val / 32 < firstNear y j + 8
    · rw [if_pos h, if_pos h]
      refine congrArg (fun q => strips a (ix5 ⟨2 * p.val + z.val, by omega⟩ t i q ⟨c.val % 32, by omega⟩)) (Fin.ext ?_)
      show min (r + (c.val / 32 - firstNear y j)) 14 = min (c.val / 32 + 7 - (4 * y.val + j.val)) 14
      omega
    · rw [if_neg h, if_neg h]
  unfold biasOf
  rw [tiles_apply, threeKinds_apply]
  match y with
  | 0 =>
    refine (fourRows_apply _ _ _ _ p t j z i c).trans ?_
    match j with
    | 0 => exact step 0 0 7 0 128 (by decide) (by decide) (by decide) rfl rfl
    | 1 => exact step 0 1 6 0 128 (by decide) (by decide) (by decide) rfl rfl
    | 2 => exact step 0 2 5 0 128 (by decide) (by decide) (by decide) rfl rfl
    | 3 => exact step 0 3 4 0 128 (by decide) (by decide) (by decide) rfl rfl
  | 1 =>
    refine (fourRows_apply _ _ _ _ p t j z i c).trans ?_
    match j with
    | 0 => exact step 1 0 3 0 128 (by decide) (by decide) (by decide) rfl rfl
    | 1 => exact step 1 1 3 1 96 (by decide) (by decide) (by decide) rfl rfl
    | 2 => exact step 1 2 3 2 64 (by decide) (by decide) (by decide) rfl rfl
    | 3 => exact step 1 3 3 3 32 (by decide) (by decide) (by decide) rfl rfl
  | 2 =>
    refine (fourRows_apply _ _ _ _ p t j z i c).trans ?_
    match j with
    | 0 => exact step 2 0 3 4 0 (by decide) (by decide) (by decide) rfl rfl
    | 1 => exact step 2 1 2 4 0 (by decide) (by decide) (by decide) rfl rfl
    | 2 => exact step 2 2 1 4 0 (by decide) (by decide) (by decide) rfl rfl
    | 3 => exact step 2 3 0 4 0 (by decide) (by decide) (by decide) rfl rfl

/-- The first row of keys a tile reads, within its map. -/
def mapRow (g : Fin 16) : ℕ := min (4 * (g.val % 8) - 4) 20

theorem rows_near : ∀ (g : Fin 16) (j : Fin 4) (u : Fin 12),
    (NearRow (4 * (g.val % 8) + j.val) (mapRow g + u.val) ↔ firstNear (kind g) j ≤ u.val ∧ u.val < firstNear (kind g) j + 8)
      ∧ (firstNear (kind g) j ≤ u.val → min (u.val + 7 - (4 * (kind g).val + j.val)) 14 = min (mapRow g + u.val + 7 - (4 * (g.val % 8) + j.val)) 14) := by
  decide +kernel

/-- The bias a tile adds to a score: the layer's bias between near tokens, minus infinity elsewhere. -/
theorem bias_near (a : FVec Ideal S1x8x15x31 .f32) (g : Fin 16) (p t j : Fin 4) (z : Fin 2) (i : Fin 16) (c : Fin 384) :
    biasOf a (ix5 (kind g) p t ⟨32 * j.val + 16 * z.val + i.val, by omega⟩ c)
      = if NearRow (4 * (g.val % 8) + j.val) (mapRow g + c.val / 32) ∧ NearCol (queryCol t i).val (keyCol t ⟨c.val % 32, by omega⟩).val
        then a (ix4 0 ⟨2 * p.val + z.val, by omega⟩ ⟨min (mapRow g + c.val / 32 + 7 - (4 * (g.val % 8) + j.val)) 14, by omega⟩
          ⟨min ((keyCol t ⟨c.val % 32, by omega⟩).val + 15 - (queryCol t i).val) 30, by omega⟩) else ⊥ := by
  obtain ⟨hn, he⟩ := rows_near g j ⟨c.val / 32, by omega⟩
  rw [biasOf_apply, strips_near]
  by_cases hr : NearRow (4 * (g.val % 8) + j.val) (mapRow g + c.val / 32)
  · rw [if_pos (hn.mp hr)]
    by_cases hc : NearCol (queryCol t i).val (keyCol t ⟨c.val % 32, by omega⟩).val
    · rw [if_pos hc, if_pos ⟨hr, hc⟩]
      exact congrArg (fun q => a (ix4 0 ⟨2 * p.val + z.val, by omega⟩ q _)) (Fin.ext (he (hn.mp hr).1))
    · rw [if_neg hc, if_neg fun h => hc h.2]
  · rw [if_neg fun h => hr (hn.mpr h), if_neg fun h => hr h.1]

end Cert.Natten

end
-- ==== Proof.NattenSoftmax.lean ====
module

public import proofs.«01_k».proof.Proof.NattenSpec
public import proofs.«01_k».proof.Proof.InProjReal

@[expose] public section

noncomputable section

/-! The attended value of a row of scores, with the division before or after the sum and with or without the scores that are minus infinity. -/

namespace Cert.Natten

open Idealize.ShloMosaic Cert.InProj

/-- A score: minus infinity, or a real number. -/
def IsScore (x : EReal) : Prop := x = ⊥ ∨ IsReal x

/-- The largest of the scores at the picked places is the largest of all, when the others are minus infinity. -/
theorem top_pick {ι κ : Type} [Fintype ι] [Fintype κ] (S : ι → EReal) (σ : κ → ι) (h : ∀ u, u ∉ Set.range σ → S u = ⊥) :
    top (fun c => S (σ c)) = top S := by
  unfold top
  apply le_antisymm
  · rw [Finset.fold_max_le]
    exact ⟨bot_le, fun c _ => (Finset.le_fold_max _).mpr (Or.inr ⟨σ c, Finset.mem_univ _, le_rfl⟩)⟩
  · rw [Finset.fold_max_le]
    refine ⟨bot_le, fun u _ => ?_⟩
    by_cases hu : u ∈ Set.range σ
    · obtain ⟨c, rfl⟩ := hu
      exact (Finset.le_fold_max _).mpr (Or.inr ⟨c, Finset.mem_univ _, le_rfl⟩)
    · rw [h u hu]
      exact bot_le

theorem le_top {ι : Type} [Fintype ι] (S : ι → EReal) (u : ι) : S u ≤ top S :=
  (Finset.le_fold_max _).mpr (Or.inr ⟨u, Finset.mem_univ _, le_rfl⟩)

/-- The largest score is real when one of them is. -/
theorem top_real {ι : Type} [Fintype ι] (S : ι → EReal) (hS : ∀ u, IsScore (S u)) (h : ∃ u, IsReal (S u)) : ∃ u, S u = top S ∧ IsReal (S u) := by
  obtain ⟨u1, a, h1⟩ := h
  obtain ⟨u0, -, hm⟩ := Finset.exists_max_image Finset.univ S ⟨u1, Finset.mem_univ _⟩
  refine ⟨u0, le_antisymm (le_top S u0) ?_, (hS u0).resolve_left fun e => ?_⟩
  · unfold top
    rw [Finset.fold_max_le]
    exact ⟨bot_le, hm⟩
  · have := hm u1 (Finset.mem_univ _)
    rw [e, h1, le_bot_iff] at this
    exact EReal.coe_ne_bot a this

theorem coe_sum {ι : Type} (s : Finset ι) (f : ι → ℝ) : ((∑ u ∈ s, f u : ℝ) : EReal) = ∑ u ∈ s, (f u : EReal) := by
  classical
  induction s using Finset.induction_on with
  | empty => simp
  | insert a s ha ih => rw [Finset.sum_insert ha, Finset.sum_insert ha, EReal.coe_add, ih]

/-- Dividing by a positive real number goes over a sum. -/
theorem sum_div {ι : Type} (s : Finset ι) (f : ι → EReal) {l : ℝ} (hl : 0 < l) :
    Ideal.div (∑ u ∈ s, f u) (l : EReal) = ∑ u ∈ s, Ideal.div (f u) (l : EReal) := by
  classical
  have h0 : (0 : EReal) ≤ ((1 / l : ℝ) : EReal) := by exact_mod_cast (one_div_pos.mpr hl).le
  simp only [Ideal.div_coe hl.ne']
  induction s using Finset.induction_on with
  | empty => simp
  | insert a s ha ih =>
    rw [Finset.sum_insert ha, Finset.sum_insert ha, ← ih, EReal.right_distrib_of_nonneg_of_ne_top h0 (EReal.coe_ne_top _)]

/-- A weight divided by a positive real number may be divided after it meets its value. -/
theorem mul_div_swap (x v : EReal) {l : ℝ} (hl : 0 < l) : Ideal.div (x * v) (l : EReal) = Ideal.div x (l : EReal) * v := by
  rw [Ideal.div_coe hl.ne', Ideal.div_coe hl.ne', mul_assoc, mul_comm v, ← mul_assoc]

/-- The weight of a score, before the division. -/
theorem weight_real {x y : EReal} (hx : IsScore x) (hy : IsReal y) : ∃ w : ℝ, 0 ≤ w ∧ Ideal.exp (x - y) = w := by
  obtain ⟨b, rfl⟩ := hy
  rcases hx with rfl | ⟨a, rfl⟩
  · exact ⟨0, le_rfl, by simp⟩
  · exact ⟨Real.exp (a - b), (Real.exp_pos _).le, rfl⟩

theorem weight_bot {y : EReal} (hy : IsReal y) : Ideal.exp (⊥ - y) = 0 := by
  obtain ⟨b, rfl⟩ := hy
  simp

/-- Attending to the picked places with the division last is attending to all with the division first. -/
theorem attended_pick {ι κ : Type} [Fintype ι] [Fintype κ] (S v : ι → EReal) (σ : κ → ι) (hσ : Function.Injective σ)
    (hb : ∀ u, u ∉ Set.range σ → S u = ⊥) (hS : ∀ u, IsScore (S u)) (hr : ∃ u, IsReal (S u)) :
    attendedLate (fun c => S (σ c)) (fun c => v (σ c)) = attended S v := by
  obtain ⟨u0, ht, h0⟩ := top_real S hS hr
  rw [ht] at h0
  choose w hw0 hw using fun u => weight_real (hS u) h0
  have hz : ∀ u, u ∉ Set.range σ → w u = 0 := fun u hu => by
    have := hw u
    rw [hb u hu, weight_bot h0] at this
    exact_mod_cast this.symm
  have hone : w u0 = 1 := by
    have hu := hw u0
    obtain ⟨b, hb'⟩ := h0
    rw [ht, hb', ← EReal.coe_sub, Ideal.exp_coe, sub_self, Real.exp_zero] at hu
    exact_mod_cast hu.symm
  have hpos : 0 < ∑ u, w u := lt_of_lt_of_le (by rw [hone]; exact one_pos) (Finset.single_le_sum (fun u _ => hw0 u) (Finset.mem_univ u0))
  have hsum : ∑ c, w (σ c) = ∑ u, w u := Fintype.sum_of_injective σ hσ _ _ (fun u hu => hz u hu) fun _ => rfl
  unfold attendedLate attended
  rw [top_pick S σ hb]
  simp only [hw, ← coe_sum]
  rw [hsum, sum_div _ _ hpos]
  simp only [mul_div_swap _ _ hpos]
  refine Fintype.sum_of_injective σ hσ _ _ (fun u hu => ?_) fun _ => rfl
  rw [hz u hu, ← mul_div_swap _ _ hpos, EReal.coe_zero, zero_mul, Ideal.div_coe hpos.ne', zero_mul]

end Cert.Natten

end
-- ==== Proof.NattenValue.lean ====
module

public import proofs.«01_k».proof.Proof.NattenTable
public import proofs.«01_k».proof.Proof.NattenSoftmax
public import proofs.«01_k».proof.Proof.Gen.KernelIdeal.Value
public import Idealize.ShloMosaic.Lib.Pipeline.ValueKit.Point
public import Idealize.ShloMosaic.Lib.Claim

@[expose] public section

set_option maxRecDepth 65536

noncomputable section

/-! The kernel's result array: the layer's attention, token by token. -/

namespace Cert.Natten

open Idealize.ShloMosaic Idealize.ShloMosaic.TcCoe Idealize.SL.Sem Cert.KernelIdeal Cert.KernelIdeal.Gen
open Cert.InProj (IsReal)
open Idealize.ShloMosaic.Pipeline (Dat)

/-- The layer's attention at one lane of a token: slab `p`, map `b`, token `s`. -/
def layerAt (x : Vec Ideal S32x65536x128 .bf16) (a : Vec Ideal S1x8x15x31 .f32) (p : Fin 4) (b : Fin 32) (s : Fin 2048) (d : Fin 128) : EReal :=
  attended (fun u => pair (fun e => x (ix3 ⟨p.val, by omega⟩ ⟨b.val * 2048 + s.val, by omega⟩ ⟨d.val / 64 * 64 + e.val, by omega⟩))
      (fun e => x (ix3 ⟨4 + p.val, by omega⟩ ⟨b.val * 2048 + u.val, by omega⟩ ⟨d.val / 64 * 64 + e.val, by omega⟩))
      (fun i j => a (ix4 0 ⟨p.val * 2 + d.val / 64, by omega⟩ i j)) s u)
    (fun u => x (ix3 ⟨8 + p.val, by omega⟩ ⟨b.val * 2048 + u.val, by omega⟩ d))

theorem near_self (s : Fin 2048) : NearRow (s.val / 64) (s.val / 64) ∧ NearCol (s.val % 64) (s.val % 64) := by
  unfold NearRow NearCol; omega

/-- A score of real queries, keys and biases is real or minus infinity. -/
theorem pair_score {q k : Fin 64 → EReal} {t : Fin 15 → Fin 31 → EReal} (hq : ∀ e, IsReal (q e)) (hk : ∀ e, IsReal (k e)) (ht : ∀ i j, IsReal (t i j))
    (s u : Fin 2048) : IsScore (pair q k t s u) := by
  unfold pair
  split_ifs
  · exact Or.inr ((IsReal.sum _ fun e => (hq e).mul (hk e)).add (ht _ _))
  · exact Or.inl rfl

theorem pair_self {q k : Fin 64 → EReal} {t : Fin 15 → Fin 31 → EReal} (hq : ∀ e, IsReal (q e)) (hk : ∀ e, IsReal (k e)) (ht : ∀ i j, IsReal (t i j))
    (s : Fin 2048) : IsReal (pair q k t s s) := by
  unfold pair
  rw [if_pos (near_self s)]
  exact (IsReal.sum _ fun e => (hq e).mul (hk e)).add (ht _ _)

/-- A tile's query token within its map. -/
def tileQuery (g : Fin 16) (j t : Fin 4) (i : Fin 16) : Fin 2048 := ⟨64 * (4 * (g.val % 8) + j.val) + (queryCol t i).val, by omega⟩

theorem mapRow_le (g : Fin 16) : mapRow g ≤ 20 := by unfold mapRow; omega

/-- A tile's key token within its map. -/
def tileKey (g : Fin 16) (t : Fin 4) (c : Fin 384) : Fin 2048 :=
  ⟨64 * (mapRow g + c.val / 32) + (keyCol t ⟨c.val % 32, by omega⟩).val, by have := mapRow_le g; omega⟩

theorem keyCol_inj : ∀ (t : Fin 4) (k l : Fin 32), keyCol t k = keyCol t l → k = l := by decide +kernel

theorem keyCol_near : ∀ (t : Fin 4) (i : Fin 16) (w : Fin 64), NearCol (queryCol t i).val w.val → ∃ k : Fin 32, keyCol t k = w := by decide +kernel

theorem queryCol_all : ∀ w : Fin 64, ∃ (t : Fin 4) (i : Fin 16), queryCol t i = w := by decide +kernel

theorem mapRow_near : ∀ (g : Fin 16) (j : Fin 4) (w : Fin 32), NearRow (4 * (g.val % 8) + j.val) w.val → mapRow g ≤ w.val ∧ w.val < mapRow g + 12 := by
  decide +kernel

theorem tileKey_inj (g : Fin 16) (t : Fin 4) : Function.Injective (tileKey g t) := by
  intro c l h
  have h' : 64 * (mapRow g + c.val / 32) + (keyCol t ⟨c.val % 32, by omega⟩).val = 64 * (mapRow g + l.val / 32) + (keyCol t ⟨l.val % 32, by omega⟩).val :=
    congrArg Fin.val h
  have hk := congrArg Fin.val (keyCol_inj t ⟨c.val % 32, by omega⟩ ⟨l.val % 32, by omega⟩ (Fin.ext (by omega)))
  dsimp only at hk
  exact Fin.ext (by omega)

/-- Away from the keys the tile reads, nothing is near. -/
theorem pair_off {q k : Fin 64 → EReal} {b : Fin 15 → Fin 31 → EReal} (g : Fin 16) (j t : Fin 4) (i : Fin 16) (u : Fin 2048)
    (hu : u ∉ Set.range (tileKey g t)) : pair q k b (tileQuery g j t i) u = ⊥ := by
  unfold pair
  refine if_neg fun h => hu ?_
  have e1 : (tileQuery g j t i).val / 64 = 4 * (g.val % 8) + j.val := by unfold tileQuery; dsimp only; omega
  have e2 : (tileQuery g j t i).val % 64 = (queryCol t i).val := by unfold tileQuery; dsimp only; omega
  rw [e1, e2] at h
  obtain ⟨hl, hh⟩ := mapRow_near g j ⟨u.val / 64, by omega⟩ h.1
  obtain ⟨κ, hκ⟩ := keyCol_near t i ⟨u.val % 64, by omega⟩ h.2
  dsimp only at hl hh
  refine ⟨⟨32 * (u.val / 64 - mapRow g) + κ.val, by omega⟩, Fin.ext ?_⟩
  have hm : (⟨(32 * (u.val / 64 - mapRow g) + κ.val) % 32, by omega⟩ : Fin 32) = κ := Fin.ext (by dsimp only; omega)
  show 64 * (mapRow g + (32 * (u.val / 64 - mapRow g) + κ.val) / 32) + (keyCol t ⟨(32 * (u.val / 64 - mapRow g) + κ.val) % 32, _⟩).val = u.val
  rw [hm, hκ]
  dsimp only
  omega

/-- A tile's score with its bias is the layer's score of its tokens. -/
theorem pair_tile (q k : Fin 64 → EReal) (a : FVec Ideal S1x8x15x31 .f32) (g : Fin 16) (p t j : Fin 4) (z : Fin 2) (i : Fin 16) (c : Fin 384) :
    (∑ e, q e * k e) + biasOf a (ix5 (kind g) p t ⟨32 * j.val + 16 * z.val + i.val, by omega⟩ c)
      = pair q k (fun r w => a (ix4 0 ⟨p.val * 2 + z.val, by omega⟩ r w)) (tileQuery g j t i) (tileKey g t c) := by
  have hh : (⟨2 * p.val + z.val, by omega⟩ : Fin 8) = ⟨p.val * 2 + z.val, by omega⟩ := Fin.ext (by dsimp only; omega)
  have e1 : (tileQuery g j t i).val / 64 = 4 * (g.val % 8) + j.val := by unfold tileQuery; dsimp only; omega
  have e2 : (tileQuery g j t i).val % 64 = (queryCol t i).val := by unfold tileQuery; dsimp only; omega
  have e3 : (tileKey g t c).val / 64 = mapRow g + c.val / 32 := by unfold tileKey; dsimp only; omega
  have e4 : (tileKey g t c).val % 64 = (keyCol t ⟨c.val % 32, by omega⟩).val := by unfold tileKey; dsimp only; omega
  rw [bias_near, hh]
  unfold pair
  simp only [e1, e2, e3, e4]
  split_ifs
  · rfl
  · exact EReal.add_bot _

variable (m : (ℓ : Loc nD τ sig) → Buf (Elt Ideal) ℓ)

/-- The result array as one function of the argument arrays. -/
def result (c : Dev nD) : Buf (Elt Ideal) ((c : Thread nD τ).loc main_v51) := fun i =>
  layerAt (m ((c : Thread nD τ).loc main_arg0)) (m ((c : Thread nD τ).loc main_arg1)) (i 0)
    ⟨(i 1).val / 2048, by have := (i 1).isLt; change (i 1).val < 65536 at this; omega⟩ ⟨(i 1).val % 2048, by omega⟩ (i 2)

theorem result_apply (c : Dev nD) (p : Fin 4) (b : Fin 32) (s : Fin 2048) (d : Fin 128) : result m c (ix3 p ⟨b.val * 2048 + s.val, by omega⟩ d)
    = layerAt (m ((c : Thread nD τ).loc main_arg0)) (m ((c : Thread nD τ).loc main_arg1)) p b s d := by
  show layerAt _ _ p ⟨(b.val * 2048 + s.val) / 2048, _⟩ ⟨(b.val * 2048 + s.val) % 2048, _⟩ d = _
  congr 1
  · exact Fin.ext (by dsimp only; omega)
  · exact Fin.ext (by dsimp only; omega)

theorem idx : ∀ t : Fin cfg0.N, win0_0.index t = ![t.val / 16, t.val % 16, 0] ∧ win0_1.index t = ![4 + t.val / 16, t.val % 16, 0]
    ∧ win0_2.index t = ![8 + t.val / 16, t.val % 16, 0] ∧ win0_3.index t = ![0, t.val / 16, 0, 0, 0] ∧ win0_4.index t = ![t.val / 16, t.val % 16, 0] :=
  (by decide +kernel : ∀ t : Fin grid0.N, _)

theorem tiles (t : Fin cfg0.N) : t.val < 64 := t.isLt.trans_eq N_0

theorem block0 (c : Dev nD) (t : Fin cfg0.N) (r : Fin 4096) (d : Fin 128) :
    iblk m c 0 t (ix3 0 r d) = m ((c : Thread nD τ).loc main_arg0) (ix3 ⟨t.val / 16, by have := tiles t; omega⟩ ⟨t.val % 16 * 4096 + r.val, by omega⟩ d) := by
  blk_ext [iblk, V, idx t]
theorem block1 (c : Dev nD) (t : Fin cfg0.N) (r : Fin 4096) (d : Fin 128) :
    iblk m c 1 t (ix3 0 r d) = m ((c : Thread nD τ).loc main_arg0) (ix3 ⟨4 + t.val / 16, by have := tiles t; omega⟩ ⟨t.val % 16 * 4096 + r.val, by omega⟩ d) := by
  blk_ext [iblk, V, idx t]
theorem block2 (c : Dev nD) (t : Fin cfg0.N) (r : Fin 4096) (d : Fin 128) :
    iblk m c 2 t (ix3 0 r d) = m ((c : Thread nD τ).loc main_arg0) (ix3 ⟨8 + t.val / 16, by have := tiles t; omega⟩ ⟨t.val % 16 * 4096 + r.val, by omega⟩ d) := by
  blk_ext [iblk, V, idx t]
theorem block3 (c : Dev nD) (t : Fin cfg0.N) (y : Fin 3) (u : Fin 4) (r : Fin 128) (k : Fin 384) :
    iblk m c 3 t (ix5 y 0 u r k) = biasOf (m ((c : Thread nD τ).loc main_arg1)) (ix5 y ⟨t.val / 16, by have := tiles t; omega⟩ u r k) := by
  have h : iblk m c 3 t (ix5 y 0 u r k) = V m c main_v50 (ix5 y ⟨t.val / 16, by have := tiles t; omega⟩ u r k) := by blk_ext [iblk, idx t]
  rw [h]
  exact congrFun (bias_entry m c) _

end Cert.Natten

end
-- ==== Proof.NattenResult.lean ====
module

public import proofs.«01_k».proof.Proof.NattenValue

@[expose] public section

set_option maxRecDepth 65536

noncomputable section

/-! The kernel's result array after the run. -/

namespace Cert.Natten

open Idealize.ShloMosaic Idealize.ShloMosaic.TcCoe Idealize.SL.Sem Cert.KernelIdeal Cert.KernelIdeal.Gen
open Cert.InProj (IsReal)
open Idealize.ShloMosaic.Pipeline (Dat)

variable (m : (ℓ : Loc nD τ sig) → Buf (Elt Ideal) ℓ)

attribute [local irreducible] rowOut biasOf pair attended attendedLate

/-- What the kernel needs of its arguments: real queries, keys and biases. -/
def RealScores (c : Dev nD) : Prop :=
  (∀ (b : Fin 8) (n : Fin 65536) (d : Fin 128), IsReal (m ((c : Thread nD τ).loc main_arg0) (ix3 ⟨b.val, by omega⟩ n d)))
    ∧ ∀ (h : Fin 8) (i : Fin 15) (j : Fin 31), IsReal (m ((c : Thread nD τ).loc main_arg1) (ix4 0 h i j))

/-- One lane of a stored row is the layer's attention at its token. -/
theorem row_tile (c : Dev nD) (hr : RealScores m c) (n : Fin cfg0.N) (g : Fin 16) (j t : Fin 4) (i : Fin 16) (d : Fin 128) :
    rowOut (iblk m c 0 n) (iblk m c 1 n) (iblk m c 2 n) (iblk m c 3 n) g j (ix3 0 (queryCol t i) d)
      = layerAt (m ((c : Thread nD τ).loc main_arg0)) (m ((c : Thread nD τ).loc main_arg1)) ⟨n.val / 16, by have := tiles n; omega⟩
        ⟨2 * (n.val % 16) + g.val / 8, by omega⟩ (tileQuery g j t i) d := by
  have hn := tiles n
  have hkey : ∀ c : Fin 384, n.val % 16 * 4096 + (64 * (keyBase g + c.val / 32) + (keyCol t ⟨c.val % 32, by omega⟩).val)
      = (2 * (n.val % 16) + g.val / 8) * 2048 + (tileKey g t c).val := fun c => by
    unfold keyBase tileKey mapRow; dsimp only; omega
  have hquery : n.val % 16 * 4096 + (64 * (4 * g.val + j.val) + (queryCol t i).val) = (2 * (n.val % 16) + g.val / 8) * 2048 + (tileQuery g j t i).val := by
    unfold tileQuery; dsimp only; omega
  rw [rowOut_apply]
  unfold layerAt
  rw [← attended_pick _ _ (tileKey g t) (tileKey_inj g t) (fun u hu => pair_off g j t i u hu)
    (fun u => pair_score (fun e => ?_) (fun e => ?_) (fun r w => ?_) _ u)
    ⟨tileQuery g j t i, pair_self (fun e => ?_) (fun e => ?_) (fun r w => ?_) _⟩]
  · congr 1
    · funext k
      rw [← pair_tile _ _ _ g ⟨n.val / 16, by omega⟩ t j ⟨d.val / 64, by omega⟩ i k, block3]
      refine congrArg (· + _) (Finset.sum_congr rfl fun e _ => ?_)
      rw [block0, block1]
      congr 2
      · exact congrArg (fun q => ix3 _ q _) (Fin.ext hquery)
      · exact congrArg (fun q => ix3 _ q _) (Fin.ext (hkey k))
    · funext k
      rw [block2]
      exact congrArg (fun q => m ((c : Thread nD τ).loc main_arg0) (ix3 _ q _)) (Fin.ext (hkey k))
  · exact hr.1 ⟨n.val / 16, by omega⟩ _ _
  · exact hr.1 ⟨4 + n.val / 16, by omega⟩ _ _
  · exact hr.2 _ _ _
  · exact hr.1 ⟨n.val / 16, by omega⟩ _ _
  · exact hr.1 ⟨4 + n.val / 16, by omega⟩ _ _
  · exact hr.2 _ _ _

theorem order_all : ∀ (g : Fin 16) (j : Fin 4), (g, j) ∈ order := by decide +kernel

/-- A grid row's rectangle holds the tokens of that row. -/
theorem row_covers (y0 : Fin 1) (y1 : Fin 4096) (y2 : Fin 128) (n : Fin 64) (h : n.val = y1.val / 64) : ix3 y0 y1 y2 ∈ (rowRect n).set := by
  rw [Rect.mem_set_unit]
  intro a
  match a with
  | 0 => show 0 ≤ y0.val ∧ y0.val < 0 + 1; omega
  | 1 => show 64 * n.val ≤ y1.val ∧ y1.val < 64 * n.val + 64; omega
  | 2 => show 0 ≤ y2.val ∧ y2.val < 0 + 128; omega

theorem place (c : Dev nD) (n : Fin cfg0.N) (x : ((cfg0.win 4).xblock (cfg0.grid.coords n)).Idx) (b : Fin 32) (s : Fin 2048) (d : Fin 128)
    (h1 : n.val % 16 * 4096 + (x 1).val = b.val * 2048 + s.val) (h2 : (x 2).val = d.val) :
    (win0_4.blk n).view.emb x = ix3 ⟨n.val / 16, by have := tiles n; omega⟩ ⟨b.val * 2048 + s.val, by omega⟩ d := by
  blk_ext [idx n]

/-- The result array after the run: the 64 blocks cover it, each of them row by row. -/
theorem final (c : Dev nD) (hr : RealScores m c) : (dats m 0 c).arrAt 4 cfg0.N = result m c := by
  refine (dats m 0 c).arrAt_eq_of_covers 4 _ (by decide +kernel) fun t hf y => ?_
  blk_simp
  rw [after0_4, out_rows]
  refine View.canon_apply_of_pieces (fun y => result m c ((win0_4.blk t).view.emb y)) _ ?_ y ?_
  · intro p hp x
    obtain ⟨⟨g, j⟩, -, rfl⟩ := List.mem_map.mp hp
    idx_vars x
    obtain ⟨u, i, rfl⟩ := queryCol_all x1
    rw [Subsingleton.elim x0 0]
    refine (row_tile m c hr t g j u i x2).trans ((result_apply m c _ _ _ _).symm.trans (congrArg (result m c) (place c t _ _ _ _ ?_ ?_).symm))
    · show t.val % 16 * 4096 + (64 * (4 * g.val + j.val) + 1 * (queryCol u i).val) = (2 * (t.val % 16) + g.val / 8) * 2048 + (tileQuery g j u i).val
      unfold tileQuery; dsimp only; omega
    · show 0 + 1 * x2.val = x2.val
      omega
  · idx_vars y
    refine ⟨_, List.mem_map.mpr ⟨(⟨y1.val / 256, by omega⟩, ⟨y1.val / 64 % 4, by omega⟩), order_all _ _, rfl⟩, ?_⟩
    exact row_covers _ _ _ _ (by dsimp only; omega)

end Cert.Natten

end
-- ==== Proof.NattenRef.lean ====
module

public import Idealize.ShloMosaic.Lib.Pointwise
public import proofs.«01_k».proof.Proof.Consts
public import proofs.«01_k».proof.Proof.NattenSpec
public import proofs.«01_k».proof.Proof.Gen.ReferenceIdeal.Run

@[expose] public section

set_option maxRecDepth 16384

noncomputable section

/-! The reference's neighbourhood attention, read at one entry. -/

namespace Cert.NattenRef

open Cert.Natten (NearRow NearCol pair attended)
open Idealize.ShloMosaic Idealize.ShloMosaic.TcCoe Idealize.SL.Sem Cert.ReferenceIdeal Cert.ReferenceIdeal.Gen

/-- Four slabs of two heads each as eight heads a batch. -/
def heads (x : FVec Ideal S4x65536x128 .f32) : FVec Ideal S32x8x2048x64 .f32 :=
  shapeCast S32x8x2048x64 (transpose S32x4x2x2048x64 [1, 0, 3, 2, 4] (shapeCast S4x32x2048x2x64 x shapeCasts_S4x65536x128_S4x32x2048x2x64)
    transposes_S4x32x2048x2x64_S32x4x2x2048x64_1_0_3_2_4) shapeCasts_S32x4x2x2048x64_S32x8x2048x64

/-- The first row of each query row's window. -/
def firstRow : IVec S32 32 :=
  minsi (broadcastInDim S32 ![] bcast_S_S32 (constantI S_ 32 24#32)) (maxsi (broadcastInDim S32 ![] bcast_S_S32 (constantI S_ 32 0#32))
    (subi (iotaInDim S32 32 0) (broadcastInDim S32 ![] bcast_S_S32 (constantI S_ 32 4#32))))

/-- The first column of each query column's window. -/
def firstCol : IVec S64 32 :=
  minsi (broadcastInDim S64 ![] bcast_S_S64 (constantI S_ 32 48#32)) (maxsi (broadcastInDim S64 ![] bcast_S_S64 (constantI S_ 32 0#32))
    (subi (iotaInDim S64 32 0) (broadcastInDim S64 ![] bcast_S_S64 (constantI S_ 32 8#32))))

/-- Which key rows lie in a query row's window. -/
def rowMask : IVec S32x32 1 :=
  andi (cmpi .sge (broadcastInDim S32x32 ![0, 1] bcast_S1x32_S32x32_0_1 (broadcastInDim S1x32 ![1] bcast_S32_S1x32_1 (iotaInDim S32 32 0)))
      (broadcastInDim S32x32 ![0, 1] bcast_S32x1_S32x32_0_1 (broadcastInDim S32x1 ![0] bcast_S32_S32x1_0 firstRow)))
    (cmpi .slt (broadcastInDim S32x32 ![0, 1] bcast_S1x32_S32x32_0_1 (broadcastInDim S1x32 ![1] bcast_S32_S1x32_1 (iotaInDim S32 32 0)))
      (broadcastInDim S32x32 ![0, 1] bcast_S32x1_S32x32_0_1 (addi (broadcastInDim S32x1 ![0] bcast_S32_S32x1_0 firstRow) (broadcastInDim S32x1 ![] bcast_S_S32x1 (constantI S_ 32 8#32)))))

/-- Which key columns lie in a query column's window. -/
def colMask : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 firstCol)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 firstCol) (broadcastInDim S64x1 ![] bcast_S_S64x1 (constantI S_ 32 16#32)))))

/-- Which keys a query attends to. -/
def mask : IVec S2048x2048 1 :=
  shapeCast S2048x2048 (andi
    (broadcastInDim S32x64x32x64 ![0, 1, 2, 3] bcast_S32x1x32x1_S32x64x32x64_0_1_2_3 (broadcastInDim S32x1x32x1 ![0, 2] bcast_S32x32_S32x1x32x1_0_2 rowMask))
    (broadcastInDim S32x64x32x64 ![0, 1, 2, 3] bcast_S1x64x1x64_S32x64x32x64_0_1_2_3 (broadcastInDim S1x64x1x64 ![1, 3] bcast_S64x64_S1x64x1x64_1_3 colMask)))
    shapeCasts_S32x64x32x64_S2048x2048

/-- The row of the bias table of a query row and a key row. -/
def rowIndex : IVec S32x32 32 :=
  minsi (broadcastInDim S32x32 ![] bcast_S_S32x32 (constantI S_ 32 14#32)) (maxsi (broadcastInDim S32x32 ![] bcast_S_S32x32 (constantI S_ 32 0#32))
    (addi (subi (broadcastInDim S32x32 ![0, 1] bcast_S1x32_S32x32_0_1 (broadcastInDim S1x32 ![1] bcast_S32_S1x32_1 (iotaInDim S32 32 0)))
      (broadcastInDim S32x32 ![0, 1] bcast_S32x1_S32x32_0_1 (broadcastInDim S32x1 ![0] bcast_S32_S32x1_0 (iotaInDim S32 32 0))))
      (broadcastInDim S32x32 ![] bcast_S_S32x32 (constantI S_ 32 7#32))))

/-- The column of the bias table of a query column and a key column. -/
def colIndex : IVec S64x64 32 :=
  minsi (broadcastInDim S64x64 ![] bcast_S_S64x64 (constantI S_ 32 30#32)) (maxsi (broadcastInDim S64x64 ![] bcast_S_S64x64 (constantI S_ 32 0#32))
    (addi (subi (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 (iotaInDim S64 32 0))))
      (broadcastInDim S64x64 ![] bcast_S_S64x64 (constantI S_ 32 15#32))))

/-- The same indices as the two gathers take them. -/
def rowPick : IVec S32x32x1 32 :=
  broadcastInDim S32x32x1 ![0, 1] bcast_S32x32_S32x32x1_0_1 (select (cmpi .slt rowIndex (broadcastInDim S32x32 ![] bcast_S_S32x32 (constantI S_ 32 0#32)))
    (addi rowIndex (broadcastInDim S32x32 ![] bcast_S_S32x32 (constantI S_ 32 15#32))) rowIndex)
def colPick : IVec S64x64x1 32 :=
  broadcastInDim S64x64x1 ![0, 1] bcast_S64x64_S64x64x1_0_1 (select (cmpi .slt colIndex (broadcastInDim S64x64 ![] bcast_S_S64x64 (constantI S_ 32 0#32)))
    (addi colIndex (broadcastInDim S64x64 ![] bcast_S_S64x64 (constantI S_ 32 31#32))) colIndex)

/-- The bias of every query and key of a head. -/
def bias (t : FVec Ideal S1x8x15x31 .f32) : FVec Ideal S8x2048x2048 .f32 :=
  shapeCast S8x2048x2048 (transpose S8x32x64x32x64 [0, 1, 3, 2, 4]
    (Host.gather gather_S8x32x32x31_S64x64x1_S8x32x32x64x64_012_3_n_n_3_2_832321
      (Host.gather gather_S8x15x31_S32x32x1_S8x32x32x31_03_1_n_n_1_2_8131 (shapeCast S8x15x31 t shapeCasts_S1x8x15x31_S8x15x31) rowPick) colPick)
    transposes_S8x32x32x64x64_S8x32x64x32x64_0_1_3_2_4) shapeCasts_S8x32x64x32x64_S8x2048x2048

theorem heads_apply (x : FVec Ideal S4x65536x128 .f32) (b : Fin 32) (h : Fin 8) (s : Fin 2048) (e : Fin 64) :
    heads x (ix4 b h s e) = x (ix3 ⟨h.val / 2, by omega⟩ ⟨b.val * 2048 + s.val, by omega⟩ ⟨h.val % 2 * 64 + e.val, by omega⟩) := by
  pointwise [heads]

theorem rowMask_apply (r u : Fin 32) : rowMask (ix2 r u) = BitVec.ofBool (decide (NearRow r u)) := by
  pointwise [rowMask, firstRow]
  revert r u; decide +kernel

theorem colMask_apply (c w : Fin 64) : colMask (ix2 c w) = BitVec.ofBool (decide (NearCol c w)) := by
  pointwise [colMask, firstCol]
  revert c w; decide +kernel

theorem andi_ofBool (a b : Bool) : IntOp.andi (BitVec.ofBool a) (BitVec.ofBool b) = BitVec.ofBool (a && b) := by
  cases a <;> cases b <;> rfl

attribute [local irreducible] rowMask colMask

theorem mask_apply (s t : Fin 2048) : mask (ix2 s t) = BitVec.ofBool (decide (NearRow (s.val / 64) (t.val / 64) ∧ NearCol (s.val % 64) (t.val % 64))) := by
  pointwise [mask]
  rw [rowMask_apply, colMask_apply, andi_ofBool]
  exact congrArg BitVec.ofBool (Bool.decide_and _ _).symm

theorem rowPick_apply (r u : Fin 32) : rowPick (ix3 r u 0) = BitVec.ofNat 32 (min (u.val + 7 - r.val) 14) := by
  pointwise [rowPick, rowIndex]
  revert r u; decide +kernel

theorem colPick_apply (c w : Fin 64) : colPick (ix3 c w 0) = BitVec.ofNat 32 (min (w.val + 15 - c.val) 30) := by
  pointwise [colPick, colIndex]
  revert c w; decide +kernel

/-- The offset a gather adds on an operand axis it neither collapses nor batches. -/
theorem offCoord_of {s si t : Shape} (d : GatherDims s si t) (j : t.Idx) (a : Fin s.rank) (b : Fin t.rank) (ha : a ∈ d.sKept)
    (hb : d.offsetDims[d.sKept.idxOf a]? = some b) : d.offCoord j a = (j b).val := by
  obtain ⟨_, rfl⟩ := List.getElem?_eq_some_iff.mp hb
  exact dif_pos ha

theorem start_of_not {s si t : Shape} (d : GatherDims s si t) (j : t.Idx) (i : IVec si 32) (a : Fin s.rank) (ha : a ∉ d.startIndexMap) : d.start j i a = 0 := dif_neg ha

/-- On an axis that is an offset only, a gather reads its result's own coordinate. -/
theorem operandIdx_offset {s si t : Shape} (d : GatherDims s si t) (j : t.Idx) (i : IVec si 32) (a : Fin s.rank) (b : Fin t.rank) (h0 : a ∉ d.startIndexMap)
    (h1 : a ∉ d.operandBatchingDims) (ha : a ∈ d.sKept) (hb : d.offsetDims[d.sKept.idxOf a]? = some b) : (d.operandIdx j i a).val = (j b).val := by
  show d.start j i a + d.batchCoord j a + d.offCoord j a = _
  rw [start_of_not d j i a h0, d.batchCoord_eq_zero j a h1, offCoord_of d j a b ha hb, Nat.zero_add]

/-- On an axis that is picked only, it reads the clamped index. -/
theorem operandIdx_picked {s si t : Shape} (d : GatherDims s si t) (j : t.Idx) (i : IVec si 32) (a : Fin s.rank) (h0 : a ∈ d.startIndexMap)
    (h1 : a ∉ d.operandBatchingDims) (ha : a ∉ d.sKept) : (d.operandIdx j i a).val
      = min (i (d.siIdx j ⟨d.startIndexMap.idxOf a, List.idxOf_lt_length_iff.2 h0⟩)).toInt.toNat (s.size a - d.sliceSizes a) := by
  show d.start j i a + d.batchCoord j a + d.offCoord j a = _
  rw [d.batchCoord_eq_zero j a h1, d.offCoord_eq_zero j a ha]
  exact dif_pos h0

/-- Where a gather finds an index: the result's own batch coordinates. -/
theorem siIdx_batch {s si t : Shape} (d : GatherDims s si t) (j : t.Idx) (k : Fin d.startIndexMap.length) (b : Fin si.rank) (e : Fin t.rank) (hb : b.val ≠ d.indexVectorDim)
    (he : d.batchDims[d.siKept.idxOf b]? = some e) : (d.siIdx j k b).val = (j e).val := by
  obtain ⟨_, rfl⟩ := List.getElem?_eq_some_iff.mp he
  unfold GatherDims.siIdx
  rw [dif_neg hb]
  rfl

/-- The first gather, of rows: every column of the picked row of each head's table. -/
theorem pickRows_apply (x : FVec Ideal S8x15x31 .f32) (i : IVec S32x32x1 32) (h : Fin 8) (r u : Fin 32) (c : Fin 31) :
    Host.gather gather_S8x15x31_S32x32x1_S8x32x32x31_03_1_n_n_1_2_8131 x i (ix4 h r u c) = x (ix3 h ⟨min (i (ix3 r u 0)).toInt.toNat 14, by omega⟩ c) := by
  unfold Host.gather
  congr 1
  funext a
  refine Fin.ext ?_
  match a with
  | ⟨0, _⟩ => exact operandIdx_offset gather_S8x15x31_S32x32x1_S8x32x32x31_03_1_n_n_1_2_8131 _ _ 0 0 (by decide) (by decide) (by decide) (by decide)
  | ⟨1, _⟩ =>
    refine (operandIdx_picked gather_S8x15x31_S32x32x1_S8x32x32x31_03_1_n_n_1_2_8131 _ _ 1 (by decide) (by decide) (by decide)).trans ?_
    refine congrArg (fun z => min (i z).toInt.toNat 14) (?_ : _ = ix3 r u 0)
    funext b
    refine Fin.ext ?_
    match b with
    | ⟨0, _⟩ => exact siIdx_batch gather_S8x15x31_S32x32x1_S8x32x32x31_03_1_n_n_1_2_8131 _ _ 0 1 (by decide) (by decide)
    | ⟨1, _⟩ => exact siIdx_batch gather_S8x15x31_S32x32x1_S8x32x32x31_03_1_n_n_1_2_8131 _ _ 1 2 (by decide) (by decide)
    | ⟨2, _⟩ => exact Nat.lt_one_iff.mp (Fin.isLt _)
  | ⟨2, _⟩ => exact operandIdx_offset gather_S8x15x31_S32x32x1_S8x32x32x31_03_1_n_n_1_2_8131 _ _ 2 3 (by decide) (by decide) (by decide) (by decide)

/-- The second gather, of columns. -/
theorem pickCols_apply (x : FVec Ideal S8x32x32x31 .f32) (i : IVec S64x64x1 32) (h : Fin 8) (r u : Fin 32) (c w : Fin 64) :
    Host.gather gather_S8x32x32x31_S64x64x1_S8x32x32x64x64_012_3_n_n_3_2_832321 x i (ix5 h r u c w) = x (ix4 h r u ⟨min (i (ix3 c w 0)).toInt.toNat 30, by omega⟩) := by
  unfold Host.gather
  congr 1
  funext a
  refine Fin.ext ?_
  match a with
  | ⟨0, _⟩ => exact operandIdx_offset gather_S8x32x32x31_S64x64x1_S8x32x32x64x64_012_3_n_n_3_2_832321 _ _ 0 0 (by decide) (by decide) (by decide) (by decide)
  | ⟨1, _⟩ => exact operandIdx_offset gather_S8x32x32x31_S64x64x1_S8x32x32x64x64_012_3_n_n_3_2_832321 _ _ 1 1 (by decide) (by decide) (by decide) (by decide)
  | ⟨2, _⟩ => exact operandIdx_offset gather_S8x32x32x31_S64x64x1_S8x32x32x64x64_012_3_n_n_3_2_832321 _ _ 2 2 (by decide) (by decide) (by decide) (by decide)
  | ⟨3, _⟩ =>
    refine (operandIdx_picked gather_S8x32x32x31_S64x64x1_S8x32x32x64x64_012_3_n_n_3_2_832321 _ _ 3 (by decide) (by decide) (by decide)).trans ?_
    refine congrArg (fun z => min (i z).toInt.toNat 30) (?_ : _ = ix3 c w 0)
    funext b
    refine Fin.ext ?_
    match b with
    | ⟨0, _⟩ => exact siIdx_batch gather_S8x32x32x31_S64x64x1_S8x32x32x64x64_012_3_n_n_3_2_832321 _ _ 0 3 (by decide) (by decide)
    | ⟨1, _⟩ => exact siIdx_batch gather_S8x32x32x31_S64x64x1_S8x32x32x64x64_012_3_n_n_3_2_832321 _ _ 1 4 (by decide) (by decide)
    | ⟨2, _⟩ => exact Nat.lt_one_iff.mp (Fin.isLt _)

/-- A small natural number, read as a signed word. -/
theorem toNat_of (n : ℕ) (h : n < 2 ^ 31) : (BitVec.ofNat 32 n).toInt.toNat = n := by
  have hn : (BitVec.ofNat 32 n).toNat = n := by rw [BitVec.toNat_ofNat]; omega
  rw [BitVec.toInt_eq_toNat_of_lt (by omega), hn, Int.toNat_natCast]

theorem rowAt (r u : Fin 32) : min (rowPick (ix3 r u 0)).toInt.toNat 14 = min (u.val + 7 - r.val) 14 := by
  rw [rowPick_apply, toNat_of _ (by omega), min_assoc, min_self]

theorem colAt (c w : Fin 64) : min (colPick (ix3 c w 0)).toInt.toNat 30 = min (w.val + 15 - c.val) 30 := by
  rw [colPick_apply, toNat_of _ (by omega), min_assoc, min_self]

attribute [local irreducible] rowPick colPick

theorem bias_apply (t : FVec Ideal S1x8x15x31 .f32) (h : Fin 8) (s u : Fin 2048) :
    bias t (ix3 h s u) = t (ix4 0 h ⟨min (u.val / 64 + 7 - s.val / 64) 14, by omega⟩ ⟨min (u.val % 64 + 15 - s.val % 64) 30, by omega⟩) := by
  pointwise [bias]
  rw [pickCols_apply, pickRows_apply]
  simp only [rowAt, colAt]
  pointwise

end Cert.NattenRef

end
-- ==== Proof.NattenRefSum.lean ====
module

public import Idealize.ShloMosaic.Lib.Pointwise
public import proofs.«01_k».proof.Proof.Consts
public import proofs.«01_k».proof.Proof.NattenSpec
public import proofs.«01_k».proof.Proof.NattenRef
public import proofs.«01_k».proof.Proof.Gen.ReferenceIdeal.Run

@[expose] public section

set_option maxRecDepth 16384

noncomputable section

/-! The reference's attention over its scores, read at one entry. -/

namespace Cert.NattenRef

open Cert.Natten (NearRow NearCol pair attended top)
open Idealize.ShloMosaic Idealize.ShloMosaic.TcCoe Idealize.SL.Sem Cert.ReferenceIdeal Cert.ReferenceIdeal.Gen

/-- The scores: scaled products plus bias where a key is near its query, −∞ elsewhere. -/
def scores (q k : FVec Ideal S32x8x2048x64 .f32) (t : FVec Ideal S1x8x15x31 .f32) : FVec Ideal S32x8x2048x2048 .f32 :=
  select (broadcastInDim S32x8x2048x2048 ![2, 3] bcast_S2048x2048_S32x8x2048x2048_2_3 mask)
    (addf (Host.dotGeneral dot_S32x8x2048x64_S32x8x2048x64_S32x8x2048x2048_3_3_2_2_01_01 none q k)
      (broadcastInDim S32x8x2048x2048 ![0, 1, 2, 3] bcast_S1x8x2048x2048_S32x8x2048x2048_0_1_2_3 (broadcastInDim S1x8x2048x2048 ![1, 2, 3] bcast_S8x2048x2048_S1x8x2048x2048_1_2_3 (bias t))))
    (broadcastInDim S32x8x2048x2048 ![] bcast_S_S32x8x2048x2048 (constant S_ .f32 0xFF800000#32))

/-- The maximum over the last axis, from −∞. -/
theorem reduce_max_apply {n0 n1 n2 n3 : ℕ} (x : (⟨4, ![n0, n1, n2, n3]⟩ : Shape).Idx → EReal) (b : S_.Idx → EReal)
    (h : (⟨4, ![n0, n1, n2, n3]⟩ : Shape).ReducesTo [3] ⟨3, ![n0, n1, n2]⟩) (hu : 0 < S_.numel) (i : Fin n0) (j : Fin n1) (k : Fin n2) :
    Host.reduce (FloatOps.maximumf (F := Ideal) (φ := .f32)) x b h hu (ix3 i j k) = (Finset.univ : Finset (Fin n3)).fold max (b (Shape.Idx.first hu)) (fun l => x (ix4 i j k l)) := by
  pointwise

/-- Each row's maximum. -/
def greatest (s : FVec Ideal S32x8x2048x2048 .f32) : FVec Ideal S32x8x2048 .f32 :=
  Host.reduce FloatOps.maximumf s (constant S_ .f32 0xFF800000#32) reducesTo_S32x8x2048x2048_S32x8x2048_d3 h_S_

/-- The exponentials of the scores less their row's maximum. -/
def powers (s : FVec Ideal S32x8x2048x2048 .f32) (t : FVec Ideal S32x8x2048 .f32) : FVec Ideal S32x8x2048x2048 .f32 :=
  Host.exp (subf s (broadcastInDim S32x8x2048x2048 ![0, 1, 2, 3] bcast_S32x8x2048x1_S32x8x2048x2048_0_1_2_3 (broadcastInDim S32x8x2048x1 ![0, 1, 2] bcast_S32x8x2048_S32x8x2048x1_0_1_2
    (maximumf (broadcastInDim S32x8x2048 ![] bcast_S_S32x8x2048 (constant S_ .f32 0xFF800000#32)) t))))

/-- Each row of powers divided by its sum. -/
def shares (p : FVec Ideal S32x8x2048x2048 .f32) : FVec Ideal S32x8x2048x2048 .f32 :=
  Host.divf p (broadcastInDim S32x8x2048x2048 ![0, 1, 2, 3] bcast_S32x8x2048x1_S32x8x2048x2048_0_1_2_3 (broadcastInDim S32x8x2048x1 ![0, 1, 2] bcast_S32x8x2048_S32x8x2048x1_0_1_2
    (Host.reduceAdd p (constant S_ .f32 0x00000000#32) reducesTo_S32x8x2048x2048_S32x8x2048_d3 h_S_)))

/-- The mixed values, laid out in four slabs again. -/
def mixed (w : FVec Ideal S32x8x2048x2048 .f32) (v : FVec Ideal S32x8x2048x64 .f32) : FVec Ideal S4x65536x128 .bf16 :=
  truncf .bf16 (shapeCast S4x65536x128 (transpose S4x32x2048x2x64 [1, 0, 3, 2, 4] (shapeCast S32x4x2x2048x64
    (Host.dotGeneral dot_S32x8x2048x2048_S32x8x2048x64_S32x8x2048x64_3_2_2_3_01_01 none w v) shapeCasts_S32x8x2048x64_S32x4x2x2048x64)
    transposes_S32x4x2x2048x64_S4x32x2048x2x64_1_0_3_2_4) shapeCasts_S4x32x2048x2x64_S4x65536x128) bitsLt_bf16_f32

theorem scores_apply (q k : FVec Ideal S32x8x2048x64 .f32) (t : FVec Ideal S1x8x15x31 .f32) (b : Fin 32) (h : Fin 8) (s u : Fin 2048) :
    scores q k t (ix4 b h s u) = pair (fun e => q (ix4 b h s e)) (fun e => k (ix4 b h u e)) (fun i j => t (ix4 0 h i j)) s u := by
  pointwise [scores]
  rw [mask_apply, bias_apply, Consts.of_neg_inf]
  unfold pair
  by_cases hn : NearRow (s.val / 64) (u.val / 64) ∧ NearCol (s.val % 64) (u.val % 64)
  · rw [if_pos hn, decide_eq_true hn]; rfl
  · rw [if_neg hn, decide_eq_false hn]; rfl

theorem greatest_apply (x : FVec Ideal S32x8x2048x2048 .f32) (b : Fin 32) (h : Fin 8) (s : Fin 2048) :
    greatest x (ix3 b h s) = (Finset.univ : Finset (Fin 2048)).fold max ⊥ (fun u => x (ix4 b h s u)) :=
  (reduce_max_apply x _ _ _ b h s).trans (congrArg (fun z => (Finset.univ : Finset (Fin 2048)).fold max z (fun u => x (ix4 b h s u))) Consts.of_neg_inf)

theorem powers_apply (x : FVec Ideal S32x8x2048x2048 .f32) (t : FVec Ideal S32x8x2048 .f32) (b : Fin 32) (h : Fin 8) (s u : Fin 2048) :
    powers x t (ix4 b h s u) = Ideal.exp (x (ix4 b h s u) - t (ix3 b h s)) := by
  pointwise [powers]
  rw [Consts.of_neg_inf, max_bot_left]

theorem shares_apply (x : FVec Ideal S32x8x2048x2048 .f32) (b : Fin 32) (h : Fin 8) (s u : Fin 2048) :
    shares x (ix4 b h s u) = Ideal.div (x (ix4 b h s u)) (∑ l, x (ix4 b h s l)) := by
  pointwise [shares]

theorem mixed_apply (w : FVec Ideal S32x8x2048x2048 .f32) (v : FVec Ideal S32x8x2048x64 .f32) (g : Fin 4) (r : Fin 65536) (d : Fin 128) :
    mixed w v (ix3 g r d) = ∑ u, w (ix4 ⟨r.val / 2048, by omega⟩ ⟨g.val * 2 + d.val / 64, by omega⟩ ⟨r.val % 2048, by omega⟩ u)
      * v (ix4 ⟨r.val / 2048, by omega⟩ ⟨g.val * 2 + d.val / 64, by omega⟩ u ⟨d.val % 64, by omega⟩) := by
  pointwise [mixed]

variable (m : (ℓ : Loc nD τ sig) → Buf (Elt Ideal) ℓ)

/-- The projected slabs the reference is given, converted. -/
def slabs (c : Dev nD) : FVec Ideal S32x65536x128 .f32 := extf .f32 (m ((c.tc : Thread nD τ).loc main_arg0)) bitsLt_bf16_f32

/-- The scores of the reference's arguments. -/
def scoresOf (c : Dev nD) : FVec Ideal S32x8x2048x2048 .f32 :=
  scores (heads (extractStridedSlice S4x65536x128 ![0, 0, 0] (slabs m c) slices_S32x65536x128_S4x65536x128_0_0_0))
    (heads (extractStridedSlice S4x65536x128 ![4, 0, 0] (slabs m c) slices_S32x65536x128_S4x65536x128_4_0_0)) (m ((c.tc : Thread nD τ).loc main_arg1))

theorem res_eq (c : Dev nD) : Value.res_out0 m c = mixed (shares (powers (scoresOf m c) (greatest (scoresOf m c))))
    (heads (extractStridedSlice S4x65536x128 ![8, 0, 0] (slabs m c) slices_S32x65536x128_S4x65536x128_8_0_0)) := rfl

/-- The reference's result at one entry: its query's scores over all 2048 keys, and what they attend to. -/
theorem res_apply (c : Dev nD) (g : Fin 4) (b : Fin 32) (s : Fin 2048) (d : Fin 128) : Value.res_out0 m c (ix3 g ⟨b.val * 2048 + s.val, by omega⟩ d) =
    attended (fun u => pair (fun e => m ((c.tc : Thread nD τ).loc main_arg0) (ix3 ⟨g.val, by omega⟩ ⟨b.val * 2048 + s.val, by omega⟩ ⟨d.val / 64 * 64 + e.val, by omega⟩))
        (fun e => m ((c.tc : Thread nD τ).loc main_arg0) (ix3 ⟨4 + g.val, by omega⟩ ⟨b.val * 2048 + u.val, by omega⟩ ⟨d.val / 64 * 64 + e.val, by omega⟩))
        (fun i j => m ((c.tc : Thread nD τ).loc main_arg1) (ix4 0 ⟨g.val * 2 + d.val / 64, by omega⟩ i j)) s u)
      (fun u => m ((c.tc : Thread nD τ).loc main_arg0) (ix3 ⟨8 + g.val, by omega⟩ ⟨b.val * 2048 + u.val, by omega⟩ d)) := by
  have h1 : (⟨(b.val * 2048 + s.val) / 2048, by omega⟩ : Fin 32) = b := Fin.ext (by dsimp only; omega)
  have h2 : (⟨(b.val * 2048 + s.val) % 2048, by omega⟩ : Fin 2048) = s := Fin.ext (by dsimp only; omega)
  have h3 : (g.val * 2 + d.val / 64) / 2 = g.val := by omega
  have h4 : (g.val * 2 + d.val / 64) % 2 = d.val / 64 := by omega
  have h5 : (⟨d.val / 64 * 64 + d.val % 64, by omega⟩ : Fin 128) = d := Fin.ext (by dsimp only; omega)
  have hq : ∀ (t : Fin 2048) (e : Fin 64), heads (extractStridedSlice S4x65536x128 ![0, 0, 0] (slabs m c) slices_S32x65536x128_S4x65536x128_0_0_0) (ix4 b ⟨g.val * 2 + d.val / 64, by omega⟩ t e)
      = m ((c.tc : Thread nD τ).loc main_arg0) (ix3 ⟨g.val, by omega⟩ ⟨b.val * 2048 + t.val, by omega⟩ ⟨d.val / 64 * 64 + e.val, by omega⟩) := fun t e => by
    rw [heads_apply]
    pointwise [slabs]
    simp only [h3, h4]
  have hk : ∀ (t : Fin 2048) (e : Fin 64), heads (extractStridedSlice S4x65536x128 ![4, 0, 0] (slabs m c) slices_S32x65536x128_S4x65536x128_4_0_0) (ix4 b ⟨g.val * 2 + d.val / 64, by omega⟩ t e)
      = m ((c.tc : Thread nD τ).loc main_arg0) (ix3 ⟨4 + g.val, by omega⟩ ⟨b.val * 2048 + t.val, by omega⟩ ⟨d.val / 64 * 64 + e.val, by omega⟩) := fun t e => by
    rw [heads_apply]
    pointwise [slabs]
    simp only [h3, h4]
  have hv : ∀ (t : Fin 2048), heads (extractStridedSlice S4x65536x128 ![8, 0, 0] (slabs m c) slices_S32x65536x128_S4x65536x128_8_0_0) (ix4 b ⟨g.val * 2 + d.val / 64, by omega⟩ t ⟨d.val % 64, by omega⟩)
      = m ((c.tc : Thread nD τ).loc main_arg0) (ix3 ⟨8 + g.val, by omega⟩ ⟨b.val * 2048 + t.val, by omega⟩ d) := fun t => by
    rw [heads_apply]
    pointwise [slabs]
    simp only [h3, h4, h5]
  have hs : ∀ u, scoresOf m c (ix4 b ⟨g.val * 2 + d.val / 64, by omega⟩ s u) = pair (fun e => m ((c.tc : Thread nD τ).loc main_arg0) (ix3 ⟨g.val, by omega⟩ ⟨b.val * 2048 + s.val, by omega⟩ ⟨d.val / 64 * 64 + e.val, by omega⟩))
        (fun e => m ((c.tc : Thread nD τ).loc main_arg0) (ix3 ⟨4 + g.val, by omega⟩ ⟨b.val * 2048 + u.val, by omega⟩ ⟨d.val / 64 * 64 + e.val, by omega⟩))
        (fun i j => m ((c.tc : Thread nD τ).loc main_arg1) (ix4 0 ⟨g.val * 2 + d.val / 64, by omega⟩ i j)) s u := fun u => by
    unfold scoresOf
    rw [scores_apply]
    simp only [hq, hk]
  rw [res_eq, mixed_apply]
  generalize scoresOf m c = S at hs
  simp only [h1, h2, shares_apply, powers_apply, greatest_apply, hs, hv, attended, top]

end Cert.NattenRef

end
-- ==== Proof.NattenClaim.lean ====
module

public import proofs.«01_k».proof.Defs
public import proofs.«01_k».proof.Proof.Gen.Pre_real_scores
public import proofs.«01_k».proof.Proof.Gen.KernelIdeal.Frame
public import proofs.«01_k».proof.Proof.InProjClaim
public import proofs.«01_k».proof.Proof.NattenResult
public import proofs.«01_k».proof.Proof.NattenRefSum

@[expose] public section

set_option maxRecDepth 16384

noncomputable section

/-! The attention kernel computes the layer's attention. -/

namespace Cert.Proof

open Idealize.ShloMosaic Idealize.ShloMosaic.TcCoe Idealize.SL.Sem

/-- Under the precondition the queries, the keys and the biases are real. -/
theorem scores_real (m : (ℓ : Loc Cert.KernelIdeal.nD Cert.KernelIdeal.τ Cert.KernelIdeal.sig) → Buf (Elt Ideal) ℓ) (h : Cert.Pre_KernelIdeal_real_scores m)
    (c : Dev Cert.KernelIdeal.nD) : Cert.Natten.RealScores m c := by
  obtain ⟨h1, h2⟩ := h c
  refine ⟨fun b n d => ?_, fun k i j => ?_⟩
  · have hl := congrFun h1 (ix3 b n d)
    simp only [Cert.Pre_real_scores.fn] at hl
    pointwise at hl
    exact real_of_bit hl
  · have hl := congrFun h2 (ix4 0 k i j)
    simp only [Cert.Pre_real_scores.fn] at hl
    pointwise at hl
    exact real_of_bit hl

/-- From arguments that agree, the kernel's array is the reference's. -/
theorem attention_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Value.res_out0 m' c : Vec Ideal Cert.KernelIdeal.S4x65536x128 .bf16) = Cert.Natten.result m c := by
  funext i
  obtain ⟨p, n, d, rfl⟩ : ∃ (p : Fin 4) (n : Fin 65536) (d : Fin 128), i = ix3 p n d := ⟨i 0, i 1, i 2, eq_ix3 i⟩
  obtain ⟨b, s, rfl⟩ : ∃ (b : Fin 32) (s : Fin 2048), n = ⟨b.val * 2048 + s.val, by omega⟩ :=
    ⟨⟨n.val / 2048, by omega⟩, ⟨n.val % 2048, by omega⟩, Fin.ext (by dsimp only; omega)⟩
  refine (Cert.NattenRef.res_apply m' c p b s d).trans ?_
  rw [h0, h1]
  exact (Cert.Natten.result_apply m c p b s d).symm

/-- The two frames under the precondition: the frames need none. -/
theorem realKept1 : Cert.quiescent_KernelIdeal_pre_real_scores := fun m ρ _ => Cert.KernelIdeal.Gen.frame m ρ
theorem realKeptRef1 : Cert.quiescent_ReferenceIdeal_pre_real_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic1 : Cert.algebraic_KernelIdeal_ReferenceIdeal_pre_real_scores := by
  intro m ρ m' ρ' hpre hag
  refine ⟨fun c => Cert.Natten.result m c, ?_, ?_⟩
  · exact (θ_run Cert.KernelIdeal.defs _ _).mono (fun _ h c => ⟨(h c).1.trans (Cert.Natten.final m c (scores_real m hpre c)), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    obtain ⟨h0, h1⟩ := hag c
    exact attention_agree m m' c h0 h1

end Cert.Proof

end
-- ==== Proof.MlpValue.lean ====
module

public import proofs.«01_k».proof.Proof.MlpBody
public import proofs.«01_k».proof.Proof.Gen.Kernel2Ideal.Value
public import Idealize.ShloMosaic.Lib.Pipeline.ValueKit.Point
public import Idealize.ShloMosaic.Lib.Claim

@[expose] public section

set_option maxRecDepth 16384

noncomputable section

namespace Cert.OutMlp

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- Where each window stands at a grid point: the token windows at the point's 1024 rows, the weights at their one block. -/
theorem idx : ∀ t : Fin cfg0.N, win0_0.index t = ![t.val, 0] ∧ win0_1.index t = ![0, t.val, 0] ∧ win0_2.index t = ![0, t.val, 0]
    ∧ win0_3.index t = ![7, t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The result array as one function of the argument arrays: each row by itself. -/
def result (c : Dev nD) : Buf (Elt Ideal) ((c : Thread nD τ).loc main_v12) := fun i =>
  row (fun k => m ((c : Thread nD τ).loc main_arg0) (ix2 (i 0) k))
    (fun q e => m ((c : Thread nD τ).loc main_arg1) (ix3 q (i 0) e))
    (fun q e => m ((c : Thread nD τ).loc main_arg2) (ix3 q (i 0) e))
    (fun q e => m ((c : Thread nD τ).loc main_arg3) (ix3 ⟨28 + q.val, by omega⟩ (i 0) e))
    (fun e => m ((c : Thread nD τ).loc main_arg4) (ix2 0 e))
    (fun k l => m ((c : Thread nD τ).loc main_arg5) (ix3 0 ⟨k.val, by omega⟩ l))
    (fun k l => m ((c : Thread nD τ).loc main_arg5) (ix3 0 ⟨512 + k.val, by omega⟩ l))
    (fun k => m ((c : Thread nD τ).loc main_arg6) (ix2 0 k))
    (fun k f => m ((c : Thread nD τ).loc main_arg7) (ix3 0 k f))
    (fun f l => m ((c : Thread nD τ).loc main_arg8) (ix3 0 f l)) (i 1)

theorem tokens (t : Fin cfg0.N) : t.val < 64 := t.isLt.trans_eq N_0

theorem block0 (c : Dev nD) (t : Fin cfg0.N) (i : Fin 1024) (k : Fin 1024) :
    iblk m c 0 t (ix2 i k) = m ((c : Thread nD τ).loc main_arg0) (ix2 ⟨t.val * 1024 + i.val, by have := tokens t; omega⟩ k) := by
  blk_ext [iblk, V, idx t]
theorem block1 (c : Dev nD) (t : Fin cfg0.N) (q : Fin 4) (i : Fin 1024) (e : Fin 128) :
    iblk m c 1 t (ix3 q i e) = m ((c : Thread nD τ).loc main_arg1) (ix3 q ⟨t.val * 1024 + i.val, by have := tokens t; omega⟩ e) := by
  blk_ext [iblk, V, idx t]
theorem block2 (c : Dev nD) (t : Fin cfg0.N) (q : Fin 4) (i : Fin 1024) (e : Fin 128) :
    iblk m c 2 t (ix3 q i e) = m ((c : Thread nD τ).loc main_arg2) (ix3 q ⟨t.val * 1024 + i.val, by have := tokens t; omega⟩ e) := by
  blk_ext [iblk, V, idx t]
theorem block3 (c : Dev nD) (t : Fin cfg0.N) (q : Fin 4) (i : Fin 1024) (e : Fin 128) :
    iblk m c 3 t (ix3 q i e) = m ((c : Thread nD τ).loc main_arg3) (ix3 ⟨28 + q.val, by omega⟩ ⟨t.val * 1024 + i.val, by have := tokens t; omega⟩ e) := by
  blk_ext [iblk, V, idx t]
theorem block4 (c : Dev nD) (t : Fin cfg0.N) (e : Fin 128) :
    iblk m c 4 t (ix2 0 e) = m ((c : Thread nD τ).loc main_arg4) (ix2 0 e) := by
  have h : iblk m c 4 t (ix2 0 e) = V m c main_v9 (ix2 0 e) := by blk_ext [iblk, idx t]
  rw [h]
  entry_read
  pointwise
theorem block5 (c : Dev nD) (t : Fin cfg0.N) (k : Fin 512) (l : Fin 1024) :
    iblk m c 5 t (ix2 k l) = m ((c : Thread nD τ).loc main_arg5) (ix3 0 ⟨k.val, by omega⟩ l) := by
  have h : iblk m c 5 t (ix2 k l) = V m c main_v10 (ix2 k l) := by blk_ext [iblk, idx t]
  rw [h]
  entry_read
  pointwise
theorem block6 (c : Dev nD) (t : Fin cfg0.N) (k : Fin 512) (l : Fin 1024) :
    iblk m c 6 t (ix2 k l) = m ((c : Thread nD τ).loc main_arg5) (ix3 0 ⟨512 + k.val, by omega⟩ l) := by
  have h : iblk m c 6 t (ix2 k l) = V m c main_v11 (ix2 k l) := by blk_ext [iblk, idx t]
  rw [h]
  entry_read
  pointwise
theorem block7 (c : Dev nD) (t : Fin cfg0.N) (k : Fin 1024) :
    iblk m c 7 t (ix2 0 k) = m ((c : Thread nD τ).loc main_arg6) (ix2 0 k) := by
  have h : iblk m c 7 t (ix2 0 k) = V m c main_v4 (ix2 0 k) := by blk_ext [iblk, idx t]
  rw [h]
  entry_read
  pointwise
theorem block8 (c : Dev nD) (t : Fin cfg0.N) (k : Fin 1024) (f : Fin 4096) :
    iblk m c 8 t (ix2 k f) = m ((c : Thread nD τ).loc main_arg7) (ix3 0 k f) := by
  have h : iblk m c 8 t (ix2 k f) = V m c main_v6 (ix2 k f) := by blk_ext [iblk, idx t]
  rw [h]
  entry_read
  pointwise
theorem block9 (c : Dev nD) (t : Fin cfg0.N) (f : Fin 4096) (l : Fin 1024) :
    iblk m c 9 t (ix2 f l) = m ((c : Thread nD τ).loc main_arg8) (ix3 0 f l) := by
  have h : iblk m c 9 t (ix2 f l) = V m c main_v8 (ix2 f l) := by blk_ext [iblk, idx t]
  rw [h]
  entry_read
  pointwise

theorem result_apply (c : Dev nD) (r : Fin 65536) (j : Fin 1024) : result m c (ix2 r j) =
    row (fun k => m ((c : Thread nD τ).loc main_arg0) (ix2 r k))
      (fun q e => m ((c : Thread nD τ).loc main_arg1) (ix3 q r e))
      (fun q e => m ((c : Thread nD τ).loc main_arg2) (ix3 q r e))
      (fun q e => m ((c : Thread nD τ).loc main_arg3) (ix3 ⟨28 + q.val, by omega⟩ r e))
      (fun e => m ((c : Thread nD τ).loc main_arg4) (ix2 0 e))
      (fun k l => m ((c : Thread nD τ).loc main_arg5) (ix3 0 ⟨k.val, by omega⟩ l))
      (fun k l => m ((c : Thread nD τ).loc main_arg5) (ix3 0 ⟨512 + k.val, by omega⟩ l))
      (fun k => m ((c : Thread nD τ).loc main_arg6) (ix2 0 k))
      (fun k f => m ((c : Thread nD τ).loc main_arg7) (ix3 0 k f))
      (fun f l => m ((c : Thread nD τ).loc main_arg8) (ix3 0 f l)) j := rfl

/-- The result array after the run: the 64 tiles cover it, and each tile's two halves are its rows. -/
theorem final (c : Dev nD) : (dats m 0 c).arrAt 10 cfg0.N = result m c := by
  refine (dats m 0 c).arrAt_eq_of_covers 10 _ (by decide +kernel) fun t hf y => ?_
  blk_simp
  rw [after0_10, out_halves]
  canon_tiles x h
  · have he : (win0_10.blk t).view.emb y = ix2 ⟨t.val * 1024 + 512 + (x 0).val, by have := tokens t; omega⟩ (x 1) := by
      blk_ext [idx t]
    rw [he]
    idx_vars x
    refine (halfV_apply _ _ _ _ _ _ _ _ _ _ _ _ _ _ _ _ _ _ _ _ _ _ _ _ _ x0 x1 _ _ _ _ _ _ _ _ _ _ ?_ ?_ ?_ ?_ ?_ ?_ ?_ ?_ ?_ ?_).trans
      (result_apply m c ⟨t.val * 1024 + 512 + x0.val, by have := tokens t; omega⟩ x1).symm
    · intro k; pointwise; rw [block0]; blk_ext
    · intro e; refine ⟨?_, ?_, ?_, ?_⟩ <;> (pointwise; rw [block1]; blk_ext)
    · intro e; refine ⟨?_, ?_, ?_, ?_⟩ <;> (pointwise; rw [block2]; blk_ext)
    · intro e; refine ⟨?_, ?_, ?_, ?_⟩ <;> (pointwise; rw [block3]; blk_ext)
    · intro e; pointwise; rw [block4]
    · intro k l; pointwise; rw [block5]
    · intro k l; pointwise; rw [block6]
    · intro k; pointwise; rw [block7]
    · intro k f; refine ⟨?_, ?_, ?_, ?_⟩ <;> (pointwise; rw [block8])
    · intro f l; refine ⟨?_, ?_, ?_, ?_⟩ <;> (pointwise; rw [block9])
  · have he : (win0_10.blk t).view.emb y = ix2 ⟨t.val * 1024 + (x 0).val, by have := tokens t; omega⟩ (x 1) := by
      blk_ext [idx t]
    rw [he]
    idx_vars x
    refine (halfV_apply _ _ _ _ _ _ _ _ _ _ _ _ _ _ _ _ _ _ _ _ _ _ _ _ _ x0 x1 _ _ _ _ _ _ _ _ _ _ ?_ ?_ ?_ ?_ ?_ ?_ ?_ ?_ ?_ ?_).trans
      (result_apply m c ⟨t.val * 1024 + x0.val, by have := tokens t; omega⟩ x1).symm
    · intro k; pointwise; rw [block0]; blk_ext
    · intro e; refine ⟨?_, ?_, ?_, ?_⟩ <;> (pointwise; rw [block1]; blk_ext)
    · intro e; refine ⟨?_, ?_, ?_, ?_⟩ <;> (pointwise; rw [block2]; blk_ext)
    · intro e; refine ⟨?_, ?_, ?_, ?_⟩ <;> (pointwise; rw [block3]; blk_ext)
    · intro e; pointwise; rw [block4]
    · intro k l; pointwise; rw [block5]
    · intro k l; pointwise; rw [block6]
    · intro k; pointwise; rw [block7]
    · intro k f; refine ⟨?_, ?_, ?_, ?_⟩ <;> (pointwise; rw [block8])
    · intro f l; refine ⟨?_, ?_, ?_, ?_⟩ <;> (pointwise; rw [block9])

end Cert.OutMlp

end
-- ==== Proof.MlpRef.lean ====
module

public import proofs.«01_k».proof.Proof.MlpBody
public import proofs.«01_k».proof.Proof.Gen.Reference2Ideal.Run

@[expose] public section

set_option maxRecDepth 16384

noncomputable section

namespace Cert.OutMlpRef

open Idealize.ShloMosaic Idealize.ShloMosaic.TcCoe Idealize.SL.Sem Cert.Reference2Ideal Cert.Reference2Ideal.Gen
open Cert.OutMlp (gated lanes hidden normed unit row)

/-- The recurrence's output, gated, token by token and head by head. -/
def gatedR (o : FVec Ideal S4x65536x128 .bf16) (p : FVec Ideal S32x65536x128 .bf16) (w : FVec Ideal S1x128 .f32) : FVec Ideal S65536x4x128 .f32 :=
  have y := transpose S65536x4x128 [1, 0, 2] (extf .f32 o bitsLt_bf16_f32) transposes_S4x65536x128_S65536x4x128_1_0_2
  have g := transpose S65536x4x128 [1, 0, 2] (extf .f32 (extractStridedSlice S4x65536x128 ![28, 0, 0] p slices_S32x65536x128_S4x65536x128_28_0_0) bitsLt_bf16_f32) transposes_S4x65536x128_S65536x4x128_1_0_2
  mulf (mulf (mulf y (broadcastInDim S65536x4x128 ![0, 1, 2] bcast_S65536x4x1_S65536x4x128_0_1_2 (Host.rsqrt (addf (Host.divf (broadcastInDim S65536x4x1 ![0, 1] bcast_S65536x4_S65536x4x1_0_1 (Host.reduceAdd (mulf y y) (constant S_ .f32 0x00000000#32) reducesTo_S65536x4x128_S65536x4_d2 h_S_)) (broadcastInDim S65536x4x1 ![] bcast_S_S65536x4x1 (constant S_ .f32 0x43000000#32))) (broadcastInDim S65536x4x1 ![] bcast_S_S65536x4x1 (constant S_ .f32 0x358637BD#32))))))
    (broadcastInDim S65536x4x128 ![0, 1, 2] bcast_S1x1x128_S65536x4x128_0_1_2 (broadcastInDim S1x1x128 ![2] bcast_S128_S1x1x128_2 (shapeCast _ w shapeCasts_S1x128_S128))))
    (mulf g (Host.divf (broadcastInDim S65536x4x128 ![] bcast_S_S65536x4x128 (constant S_ .f32 0x3F800000#32)) (addf (broadcastInDim S65536x4x128 ![] bcast_S_S65536x4x128 (constant S_ .f32 0x3F800000#32)) (Host.exp (Host.negf g)))))

/-- The residual stream after the two mixers. -/
def hiddenR (x : FVec Ideal S65536x1024 .f32) (y : FVec Ideal S4x65536x128 .bf16) (h : FVec Ideal S65536x4x128 .f32) (w : FVec Ideal S1x1024x1024 .f32) : FVec Ideal S65536x1024 .f32 :=
  addf x (Host.dotGeneral dot_S65536x1024_S1024x1024_S65536x1024_1_0_0_1_n_n none (concatenate S65536x1024 1 [⟨S65536x512, (shapeCast _ (transpose S65536x4x128 [1, 0, 2] (extf .f32 y bitsLt_bf16_f32) transposes_S4x65536x128_S65536x4x128_1_0_2) shapeCasts_S65536x4x128_S65536x512)⟩, ⟨S65536x512, (shapeCast _ h shapeCasts_S65536x4x128_S65536x512)⟩] concatenates_S65536x512_S65536x512_S65536x1024_d1) (shapeCast _ w shapeCasts_S1x1024x1024_S1024x1024))

theorem gatedR_apply (o : FVec Ideal S4x65536x128 .bf16) (p : FVec Ideal S32x65536x128 .bf16) (w : FVec Ideal S1x128 .f32) (r : Fin 65536) (q : Fin 4) (d : Fin 128) :
    gatedR o p w (ix3 r q d) = gated (fun e => o (ix3 q r e)) (fun e => p (ix3 ⟨28 + q.val, by omega⟩ r e)) (fun e => w (ix2 0 e)) d := by
  pointwise [gatedR, gated]

theorem hiddenR_apply (x : FVec Ideal S65536x1024 .f32) (y : FVec Ideal S4x65536x128 .bf16) (h : FVec Ideal S65536x4x128 .f32) (w : FVec Ideal S1x1024x1024 .f32) (r : Fin 65536) (j : Fin 1024) :
    hiddenR x y h w (ix2 r j) = hidden (fun k => x (ix2 r k)) (fun q e => y (ix3 q r e)) (fun q e => h (ix3 r q e))
      (fun k l => w (ix3 0 ⟨k.val, by omega⟩ l)) (fun k l => w (ix3 0 ⟨512 + k.val, by omega⟩ l)) j := by
  pointwise [hiddenR, OutMlp.hidden, lanes]
  exact (add_assoc _ _ _).symm

/-- The norm of the residual stream. -/
def normedR (h : FVec Ideal S65536x1024 .f32) (w : FVec Ideal S1x1024 .f32) : FVec Ideal S65536x1024 .f32 :=
  mulf (mulf h (broadcastInDim S65536x1024 ![0, 1] bcast_S65536x1_S65536x1024_0_1 (Host.rsqrt (addf (Host.divf (broadcastInDim S65536x1 ![0] bcast_S65536_S65536x1_0 (Host.reduceAdd (mulf h h) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 (shapeCast _ w shapeCasts_S1x1024_S1024)))

/-- The feed-forward layer of the normed rows. -/
def forwardR (u : FVec Ideal S65536x1024 .f32) (a : FVec Ideal S1x1024x4096 .f32) (b : FVec Ideal S1x4096x1024 .f32) : FVec Ideal S65536x1024 .f32 :=
  have v := maximumf (Host.dotGeneral dot_S65536x1024_S1024x4096_S65536x4096_1_0_0_1_n_n none u (shapeCast _ a shapeCasts_S1x1024x4096_S1024x4096)) (broadcastInDim S65536x4096 ![] bcast_S_S65536x4096 (constant S_ .f32 0x00000000#32))
  Host.dotGeneral dot_S65536x4096_S4096x1024_S65536x1024_1_0_0_1_n_n none (mulf v v) (shapeCast _ b shapeCasts_S1x4096x1024_S4096x1024)

theorem normedR_apply (h : FVec Ideal S65536x1024 .f32) (w : FVec Ideal S1x1024 .f32) (r : Fin 65536) (j : Fin 1024) :
    normedR h w (ix2 r j) = normed (fun k => h (ix2 r k)) (fun k => w (ix2 0 k)) j := by
  pointwise [normedR, normed]

theorem forwardR_apply (u : FVec Ideal S65536x1024 .f32) (a : FVec Ideal S1x1024x4096 .f32) (b : FVec Ideal S1x4096x1024 .f32) (r : Fin 65536) (j : Fin 1024) :
    forwardR u a b (ix2 r j) = ∑ f : Fin 4096, unit (fun k => u (ix2 r k)) (fun k => a (ix3 0 k f)) * b (ix3 0 f j) := by
  pointwise [forwardR, unit]

variable (m : (ℓ : Loc nD τ sig) → Buf (Elt Ideal) ℓ)

/-- The residual stream of the reference's arguments. -/
def stream (c : Dev nD) : FVec Ideal S65536x1024 .f32 :=
  hiddenR (m ((c.tc : Thread nD τ).loc main_arg0)) (m ((c.tc : Thread nD τ).loc main_arg1))
    (gatedR (m ((c.tc : Thread nD τ).loc main_arg2)) (m ((c.tc : Thread nD τ).loc main_arg3)) (m ((c.tc : Thread nD τ).loc main_arg4)))
    (m ((c.tc : Thread nD τ).loc main_arg5))

theorem res_eq (c : Dev nD) : Value.res_out0 m c =
    addf (stream m c) (forwardR (normedR (stream m c) (m ((c.tc : Thread nD τ).loc main_arg6))) (m ((c.tc : Thread nD τ).loc main_arg7)) (m ((c.tc : Thread nD τ).loc main_arg8))) := rfl

/-- The reference's result, row by row. -/
theorem res_apply (c : Dev nD) (r : Fin 65536) (j : Fin 1024) : Value.res_out0 m c (ix2 r j) =
    row (fun k => m ((c.tc : Thread nD τ).loc main_arg0) (ix2 r k))
      (fun q e => m ((c.tc : Thread nD τ).loc main_arg1) (ix3 q r e))
      (fun q e => m ((c.tc : Thread nD τ).loc main_arg2) (ix3 q r e))
      (fun q e => m ((c.tc : Thread nD τ).loc main_arg3) (ix3 ⟨28 + q.val, by omega⟩ r e))
      (fun e => m ((c.tc : Thread nD τ).loc main_arg4) (ix2 0 e))
      (fun k l => m ((c.tc : Thread nD τ).loc main_arg5) (ix3 0 ⟨k.val, by omega⟩ l))
      (fun k l => m ((c.tc : Thread nD τ).loc main_arg5) (ix3 0 ⟨512 + k.val, by omega⟩ l))
      (fun k => m ((c.tc : Thread nD τ).loc main_arg6) (ix2 0 k))
      (fun k f => m ((c.tc : Thread nD τ).loc main_arg7) (ix3 0 k f))
      (fun f l => m ((c.tc : Thread nD τ).loc main_arg8) (ix3 0 f l)) j := by
  have hs : ∀ l, stream m c (ix2 r l) = hidden (fun k => m ((c.tc : Thread nD τ).loc main_arg0) (ix2 r k))
      (fun q e => m ((c.tc : Thread nD τ).loc main_arg1) (ix3 q r e))
      (fun q => gated (fun e => m ((c.tc : Thread nD τ).loc main_arg2) (ix3 q r e)) (fun e => m ((c.tc : Thread nD τ).loc main_arg3) (ix3 ⟨28 + q.val, by omega⟩ r e))
        (fun e => m ((c.tc : Thread nD τ).loc main_arg4) (ix2 0 e)))
      (fun k l => m ((c.tc : Thread nD τ).loc main_arg5) (ix3 0 ⟨k.val, by omega⟩ l))
      (fun k l => m ((c.tc : Thread nD τ).loc main_arg5) (ix3 0 ⟨512 + k.val, by omega⟩ l)) l := fun l => by
    unfold stream
    rw [hiddenR_apply]
    simp only [gatedR_apply]
  rw [res_eq]
  unfold row
  refine congrArg₂ (· + ·) (hs j) ((forwardR_apply _ _ _ r j).trans (Finset.sum_congr rfl fun f _ => ?_))
  refine congrArg (fun u => unit u _ * _) (funext fun k => (normedR_apply _ _ r k).trans ?_)
  exact congrArg (fun h => normed h _ k) (funext hs)

end Cert.OutMlpRef

end
-- ==== Proof.MlpClaim.lean ====
module

public import proofs.«01_k».proof.Defs
public import proofs.«01_k».proof.Proof.MlpValue
public import proofs.«01_k».proof.Proof.MlpRef

@[expose] public section

set_option maxRecDepth 16384

noncomputable section

namespace Cert.Proof

open Idealize.ShloMosaic Idealize.ShloMosaic.TcCoe Idealize.SL.Sem

/-- From arguments that agree, the kernel's array of rows is the reference's. -/
theorem mlp_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) :
    (Cert.Reference2Ideal.Value.res_out0 m' c : Vec Ideal Cert.Kernel2Ideal.S65536x1024 .f32) = Cert.OutMlp.result m c := by
  funext i
  obtain ⟨r, j, rfl⟩ : ∃ (r : Fin 65536) (j : Fin 1024), i = ix2 r j := ⟨i 0, i 1, eq_ix2 i⟩
  refine (Cert.OutMlpRef.res_apply m' c r j).trans ?_
  rw [h0, h1, h2, h3, h4, h5, h6, h7, h8]
  exact (Cert.OutMlp.result_apply m c r j).symm

theorem algebraic2 : Cert.algebraic_Kernel2Ideal_Reference2Ideal := by
  intro m ρ m' ρ' _ hag
  refine ⟨fun c => Cert.OutMlp.result m c, ?_, ?_⟩
  · exact (θ_run Cert.Kernel2Ideal.defs _ _).mono (fun _ h c => ⟨(h c).1.trans (Cert.OutMlp.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4, h5, h6, h7, h8⟩ := hag c
    exact mlp_agree m m' c h0 h1 h2 h3 h4 h5 h6 h7 h8

end Cert.Proof

end
-- ==== Proof.lean ====
module

public import proofs.«01_k».proof.Proof.Frames
public import proofs.«01_k».proof.Proof.Gen.Pre_finite
public import proofs.«01_k».proof.Proof.Gen.KernelIdeal.Value
public import proofs.«01_k».proof.Proof.Gen.Pre_real_scores
public import proofs.«01_k».proof.Proof.NattenClaim
public import proofs.«01_k».proof.Proof.MlpClaim
public import proofs.«01_k».proof.Proof.InProjClaim

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_real_scores.Gen.facts, Cert.Pre_finite.Gen.facts,
  kept1, keptIdeal1, realKept1, keptRef1, realKeptRef1, kept2, keptIdeal2, keptRef2, kept3, keptIdeal3, finiteKept3, keptRef3, finiteKeptRef3,
  trivial, algebraic1, trivial, algebraic2, trivial, algebraic3⟩

end Cert.Proof

end
